-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S10000 : Shape := ⟨1, ![10000]⟩
abbrev S10000x10000 : Shape := ⟨2, ![10000, 10000]⟩
abbrev S_ : Shape := ⟨0, ![]⟩
abbrev S10000x32 : Shape := ⟨2, ![10000, 32]⟩
abbrev S10000x1 : Shape := ⟨2, ![10000, 1]⟩
abbrev S10000x10112 : Shape := ⟨2, ![10000, 10112]⟩
abbrev S10000x79x128 : Shape := ⟨3, ![10000, 79, 128]⟩
abbrev S10000x128 : Shape := ⟨2, ![10000, 128]⟩

class Facts : Prop where
  bcast_S_S10000x10000 : S_.BroadcastsInDim S10000x10000 (![] : Fin 0 → Fin S10000x10000.rank)
  sliceFits_S10000x10000_S10000x32 : S10000x10000.Slices (fun _ => 0) S10000x32
  slices_S10000x32_S10000x1_0_0 : S10000x32.Slices ![0, 0] S10000x1
  bcast_S_S10000x1 : S_.BroadcastsInDim S10000x1 (![] : Fin 0 → Fin S10000x1.rank)
  slices_S10000x32_S10000x1_0_31 : S10000x32.Slices ![0, 31] S10000x1
  bcast_S10000x1_S10000x10000_0_1 : S10000x1.BroadcastsInDim S10000x10000 (![0, 1] : Fin 2 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  pads_S10000x10000_S10000x10112_000_01120 : S10000x10000.Pads (![0, 0] : Fin 2 → Nat) ![0, 112] ![0, 0] S10000x10112
  shapeCasts_S10000x10112_S10000x79x128 : S10000x10112.ShapeCasts S10000x79x128
  reducesTo_S10000x79x128_S10000x128_d1 : S10000x79x128.ReducesTo [1] S10000x128
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)

variable [Facts]

def fn_part2 {F : FTy → Type} [FloatOps F] (main_v22 : IVec S10000x1 1) (main_v31 : IVec S10000x128 1) (main_v32 : IVec S10000x128 1) : IVec S10000x128 1 :=
  let main_v33 : IVec S10000x128 1 := andi main_v32 main_v31
  let main_v34 : IVec S10000x128 1 := broadcastInDim S10000x128 ![0, 1] bcast_S10000x1_S10000x128_0_1 main_v22
  let main_v35 : IVec S10000x128 1 := ori main_v34 main_v33
  main_v35

def fn_part1 {F : FTy → Type} [FloatOps F] (main_v1 : FVec F S10000x10000 .f32) (main_v15 : FVec F S10000x10000 .f32) (main_cst_4 : FVec F S_ .f32) : IVec S10000x128 1 :=
  let main_v16 : FVec F S10000x10000 .f32 := broadcastInDim S10000x10000 ![] bcast_S_S10000x10000 main_cst_4
  let main_v17 : IVec S10000x10000 1 := cmpf .ogt main_v1 main_v16
  let main_v18 : FVec F S10000x10000 .f32 := uitofp .f32 main_v17
  let main_cst_5 : FVec F S_ .f32 := constant S_ .f32 0x00000000#32
  let main_v19 : FVec F S10000 .f32 := (fun x v => Host.reduceAdd x v reducesTo_S10000x10000_S10000_d1 h_S_) main_v18 main_cst_5
  let main_v20 : FVec F S10000x1 .f32 := broadcastInDim S10000x1 ![0] bcast_S10000_S10000x1_0 main_v19
  let main_cst_6 : FVec F S_ .f32 := constant S_ .f32 0x42000000#32
  let main_v21 : FVec F S10000x1 .f32 := broadcastInDim S10000x1 ![] bcast_S_S10000x1 main_cst_6
  let main_v22 : IVec S10000x1 1 := cmpf .ole main_v20 main_v21
  let main_cst_7 : FVec F S_ .f32 := constant S_ .f32 0x00000000#32
  let main_v23 : FVec F S10000 .f32 := (fun x v => Host.reduceAdd x v reducesTo_S10000x10000_S10000_d1 h_S_) main_v15 main_cst_7
  let main_v24 : FVec F S10000x1 .f32 := broadcastInDim S10000x1 ![0] bcast_S10000_S10000x1_0 main_v23
  let main_cst_8 : FVec F S_ .f32 := constant S_ .f32 0x42000000#32
  let main_v25 : FVec F S10000x1 .f32 := broadcastInDim S10000x1 ![] bcast_S_S10000x1 main_cst_8
  let main_v26 : IVec S10000x1 1 := cmpf .ole main_v24 main_v25
  let main_cst_9 : FVec F S_ .f32 := constant S_ .f32 0x00000000#32
  let main_v27 : FVec F S10000x10112 .f32 := (fun x v => pad S10000x10112 ![0, 0] ![0, 112] ![0, 0] x v pads_S10000x10000_S10000x10112_000_01120 h_S_) main_v15 main_cst_9
  let main_v28 : FVec F S10000x79x128 .f32 := shapeCast S10000x79x128 main_v27 shapeCasts_S10000x10112_S10000x79x128
  let main_cst_10 : FVec F S_ .f32 := constant S_ .f32 0x00000000#32
  let main_v29 : FVec F S10000x128 .f32 := (fun x v => Host.reduceAdd x v reducesTo_S10000x79x128_S10000x128_d1 h_S_) main_v28 main_cst_10
  let main_cst_11 : FVec F S_ .f32 := constant S_ .f32 0x40800000#32
  let main_v30 : FVec F S10000x128 .f32 := broadcastInDim S10000x128 ![] bcast_S_S10000x128 main_cst_11
  let main_v31 : IVec S10000x128 1 := cmpf .ole main_v29 main_v30
  let main_v32 : IVec S10000x128 1 := broadcastInDim S10000x128 ![0, 1] bcast_S10000x1_S10000x128_0_1 main_v26
  fn_part2 (F := F) main_v22 main_v31 main_v32

def fn {F : FTy → Type} [FloatOps F] (main_arg0 : IVec S10000 32) (main_arg1 : FVec F S10000x10000 .f32) : IVec S10000x128 1 :=
  let main_cst : FVec F S_ .f32 := constant S_ .f32 0x00000000#32
  let main_v0 : FVec F S10000x10000 .f32 := broadcastInDim S10000x10000 ![] bcast_S_S10000x10000 main_cst
  let main_v1 : FVec F S10000x10000 .f32 := maximumf main_arg1 main_v0
  let main_values : FVec F S10000x32 .f32 := (fun x => (Host.topK S10000x32 1 (FloatOps.cmpfTotal .gt) x sliceFits_S10000x10000_S10000x32).1) main_v1
  let main_indices : IVec S10000x32 32 := (fun x => (Host.topK S10000x32 1 (FloatOps.cmpfTotal .gt) x sliceFits_S10000x10000_S10000x32).2) main_v1
  let main_v2 : FVec F S10000x1 .f32 := (extractStridedSlice S10000x1 ![0, 0] · slices_S10000x32_S10000x1_0_0) main_values
  let main_cst_0 : FVec F S_ .f32 := constant S_ .f32 0x3F800347#32
  let main_v3 : FVec F S10000x1 .f32 := broadcastInDim S10000x1 ![] bcast_S_S10000x1 main_cst_0
  let main_v4 : FVec F S10000x1 .f32 := mulf main_v2 main_v3
  let main_cst_1 : FVec F S_ .f32 := constant S_ .f32 0x1E3CE508#32
  let main_v5 : FVec F S10000x1 .f32 := broadcastInDim S10000x1 ![] bcast_S_S10000x1 main_cst_1
  let main_v6 : FVec F S10000x1 .f32 := addf main_v4 main_v5
  let main_cst_2 : FVec F S_ .f32 := constant S_ .f32 0x36800000#32
  let main_v7 : FVec F S10000x1 .f32 := broadcastInDim S10000x1 ![] bcast_S_S10000x1 main_cst_2
  let main_v8 : FVec F S10000x1 .f32 := mulf main_v6 main_v7
  let main_v9 : FVec F S10000x1 .f32 := (extractStridedSlice S10000x1 ![0, 31] · slices_S10000x32_S10000x1_0_31) main_values
  let main_v10 : FVec F S10000x1 .f32 := subf main_v9 main_v8
  let main_cst_3 : FVec F S_ .f32 := constant S_ .f32 0x00000000#32
  let main_v11 : FVec F S10000x1 .f32 := broadcastInDim S10000x1 ![] bcast_S_S10000x1 main_cst_3
  let main_v12 : FVec F S10000x1 .f32 := maximumf main_v10 main_v11
  let main_v13 : FVec F S10000x10000 .f32 := broadcastInDim S10000x10000 ![0, 1] bcast_S10000x1_S10000x10000_0_1 main_v12
  let main_v14 : IVec S10000x10000 1 := cmpf .ogt main_v1 main_v13
  let main_v15 : FVec F S10000x10000 .f32 := uitofp .f32 main_v14
  let main_cst_4 : FVec F S_ .f32 := constant S_ .f32 0x00000000#32
  fn_part1 (F := F) main_v1 main_v15 main_cst_4
-- ==== Kernel.lean ====
abbrev S10000 : Shape := ⟨1, ![10000]⟩
abbrev S10000x10000 : Shape := ⟨2, ![10000, 10000]⟩
abbrev S200x10000 : Shape := ⟨2, ![200, 10000]⟩
abbrev S40x128 : Shape := ⟨2, ![40, 128]⟩
abbrev S40x16 : Shape := ⟨2, ![40, 16]⟩
abbrev S40x112 : Shape := ⟨2, ![40, 112]⟩
abbrev S40x512 : Shape := ⟨2, ![40, 512]⟩
abbrev S200x512 : Shape := ⟨2, ![200, 512]⟩
abbrev S200 : Shape := ⟨1, ![200]⟩
abbrev S200x1 : Shape := ⟨2, ![200, 1]⟩

abbrev nBuf : Space → Nat
  | .hbm => 3
  | .vmem => 4
  | .smem => 0
  | _ => 0

abbrev bufTy : (tb : Table) → Fin (tcTables nBuf tb) → BufTy
  | .hbm, ⟨0, _⟩ => ⟨S10000, .i32⟩
  | .hbm, ⟨1, _⟩ => ⟨S10000x10000, .f32⟩
  | .hbm, ⟨2, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c18_i32 : BitVec 32 := 18#32
  let v2725 : BitVec 32 := Scalar.addi c0_i32 c18_i32
  let c1_i32 : BitVec 32 := 1#32
  ⟨c0_i32, v2725, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S10000 : Shape := ⟨1, ![10000]⟩
abbrev S10000x10000 : Shape := ⟨2, ![10000, 10000]⟩
abbrev S_ : Shape := ⟨0, ![]⟩
abbrev S10000x32 : Shape := ⟨2, ![10000, 32]⟩
abbrev S10000x1 : Shape := ⟨2, ![10000, 1]⟩
abbrev S10000x32x1 : Shape := ⟨3, ![10000, 32, 1]⟩
abbrev S10000x32x2 : Shape := ⟨3, ![10000, 32, 2]⟩

abbrev nBuf : Space → Nat
  | .hbm => 33
  | .vmem => 0
  | .smem => 0
  | _ => 0

abbrev bufTy : (tb : Table) → Fin (tcTables nBuf tb) → BufTy
  | .hbm, ⟨0, _⟩ => ⟨S10000, .i32⟩
  | .hbm, ⟨1, _⟩ => ⟨S10000x10000, .f32⟩
  | .hbm, ⟨2, _⟩ => ⟨S_, .f32⟩
  | .hbm, ⟨3, _⟩ => ⟨S10000x10000, .f32⟩
  | .hbm, ⟨4, _⟩ => ⟨S10000x10000, .f32⟩
  | .hbm, ⟨5, _⟩ => ⟨S10000x32, .f32⟩
  | .hbm, ⟨6, _⟩ => ⟨S10000x32, .i32⟩
  | .hbm, ⟨7, _⟩ => ⟨S10000, .i32⟩
  | .hbm, ⟨8, _⟩ => ⟨S10000x1, .i32⟩
  | .hbm, ⟨9, _⟩ => ⟨S_, .f32⟩
  | .hbm, ⟨10, _⟩ => ⟨S10000x10000, .f32⟩
  | .hbm, ⟨11, _⟩ => ⟨S_, .i32⟩
  | .hbm, ⟨12, _⟩ => ⟨S10000x1, .i32⟩
  | .hbm, ⟨13, _⟩ => ⟨S10000x1, .i1⟩
  | .hbm, ⟨14, _⟩ => ⟨S_, .i32⟩
  | .hbm, ⟨15, _⟩ => ⟨S10000x1, .i32⟩
  | .hbm, ⟨16, _⟩ => ⟨S10000x1, .i32⟩
  | .hbm, ⟨17, _⟩ => ⟨S10000x1, .i32⟩
  | .hbm, ⟨18, _⟩ => ⟨S_, .i32⟩
  | .hbm, ⟨19, _⟩ => ⟨S10000x32, .i32⟩
  | .hbm, ⟨20, _⟩ => ⟨S10000x32, .i1⟩
  | .hbm, ⟨21, _⟩ => ⟨S_, .i32⟩
  | .hbm, ⟨22, _⟩ => ⟨S10000x32, .i32⟩
  | .hbm, ⟨23, _⟩ => ⟨S10000x32, .i32⟩
  | .hbm, ⟨24, _⟩ => ⟨S10000x32, .i32⟩
  | .hbm, ⟨25, _⟩ => ⟨S10000x32, .i32⟩
  | .hbm, ⟨26, _⟩ => ⟨S10000x32x1, .i32⟩
  | .hbm, ⟨27, _⟩ => ⟨S10000x32x1, .i32⟩
  | .hbm, ⟨28, _⟩ => ⟨S10000x32x2, .i32⟩
  | .hbm, ⟨29, _⟩ => ⟨S_, .f32⟩
  | .hbm, ⟨30, _⟩ => ⟨S10000x32, .f32⟩
  | .hbm, ⟨31, _⟩ => ⟨S10000x10000, .f32⟩
  | .hbm, ⟨32, _⟩ => ⟨S10000x10000, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Lanes.lean ====
module

public import proofs.«01_k».proof.Proof.Gen.KernelIdeal.Value
public import Idealize.ShloMosaic.Lib.VecWindow
public import Idealize.ShloMosaic.Lib.WholeRead

/-! What one grid point writes, as the kernel's own algorithm over whole vectors: each 40-row slab's four running
maxima per lane, the halved bracket over the five slabs' candidates, and the block kept where it reaches the bracket's
lower end. Stated for any floats. -/

@[expose] public section

set_option maxRecDepth 16384

noncomputable section

namespace Cert.KernelIdeal.Lanes

open Cert.KernelIdeal Cert.KernelIdeal.Gen Idealize.ShloMosaic Idealize.ShloMosaic.TcCoe Idealize.SL.Sem

variable {F : FTy → Type} [FloatOps F]

/-- A slab's vector: 40 rows by 128 lanes. -/
abbrev Slab (F : FTy → Type) := FVec F S40x128 .f32

/-- Four slab vectors: per row and lane the four largest so far, in descending order. -/
structure Four (F : FTy → Type) where
  s0 : Slab F
  s1 : Slab F
  s2 : Slab F
  s3 : Slab F

/-- Four vectors put in order by five exchanges. -/
def seed (a b c d : Slab F) : Four F :=
  ⟨maximumf (maximumf a b) (maximumf c d),
   maximumf (maximumf (minimumf a b) (minimumf c d)) (minimumf (maximumf a b) (maximumf c d)),
   minimumf (maximumf (minimumf a b) (minimumf c d)) (minimumf (maximumf a b) (maximumf c d)),
   minimumf (minimumf a b) (minimumf c d)⟩

/-- The last four exchanges of an insertion. -/
def settle (a b c d : Slab F) : Four F :=
  ⟨maximumf (maximumf a c) (maximumf b d), minimumf (maximumf a c) (maximumf b d),
   maximumf (minimumf a c) (minimumf b d), minimumf (minimumf a c) (minimumf b d)⟩

/-- Two vectors inserted. -/
def insertTwo (S : Four F) (a b : Slab F) : Four F :=
  settle S.s0 S.s1 (maximumf S.s2 (minimumf a b)) (maximumf S.s3 (maximumf a b))

/-- One vector inserted. -/
def insertOne (S : Four F) (v : Slab F) : Four F :=
  ⟨maximumf S.s0 v, maximumf S.s1 (minimumf S.s0 v), maximumf S.s2 (minimumf S.s1 (minimumf S.s0 v)),
   maximumf S.s3 (minimumf S.s2 (minimumf S.s1 (minimumf S.s0 v)))⟩

/-- The state after the first four vectors and `n` pairs more. -/
def network (ld : Nat → Slab F) : Nat → Four F
  | 0 => seed (ld 0) (ld 1) (ld 2) (ld 3)
  | n + 1 => insertTwo (network ld n) (ld (2 * n + 4)) (ld (2 * n + 5))

/-- Slab `b`'s chunk `c` lies in the block. -/
theorem inb_chunk (b : Fin 5) (c : Nat) :
    ∀ a, (![40 * b.val, 128 * (c % 78)] : Fin 2 → Nat) a + S40x128.size a ≤ S200x10000.size a := by
  intro a
  fin_cases a
  · have := b.isLt; simp; omega
  · have := Nat.mod_lt c (show 78 > 0 by decide); simp; omega

/-- Slab `b`'s last sixteen columns lie in the block. -/
theorem inb_tail (b : Fin 5) : ∀ a, (![40 * b.val, 9984] : Fin 2 → Nat) a + S40x16.size a ≤ S200x10000.size a := by
  intro a
  fin_cases a
  · have := b.isLt; simp; omega
  · simp

variable (arg1 : Memref sig .tc .vmem S200x10000 .f32) (harg1 : arg1.IsWhole) (x0 : Vec F S200x10000 .f32)

/-- Chunk `c` of slab `b`, as loaded. -/
def chunk (b : Fin 5) (c : Nat) : Slab F :=
  View.readAt (Elt F) arg1.view
    (Rect.unit (s := S200x10000) ![40 * b.val, 128 * (c % 78)] S40x128.size (inb_chunk b c)).toLoadRect (harg1.unread x0)

/-- The last sixteen columns of slab `b`, as loaded. -/
def lastCols (b : Fin 5) : Vec F S40x16 .f32 :=
  View.readAt (Elt F) arg1.view
    (Rect.unit (s := S200x10000) ![40 * b.val, 9984] S40x16.size (inb_tail b)).toLoadRect (harg1.unread x0)

/-- The last sixteen columns of slab `b`, padded to a vector. -/
def tail (b : Fin 5) : Slab F :=
  concatenate S40x128 1 [⟨S40x16, lastCols arg1 harg1 x0 b⟩,
    ⟨S40x112, broadcast S40x112 (Scalar.ofBits .f32 0xFF800000#32 : F .f32)⟩] concatenates_S40x16_S40x112_S40x128_d1

/-- Slab `b`'s four largest per lane. -/
def four (b : Fin 5) : Four F := insertOne (network (chunk arg1 harg1 x0 b) 37) (tail arg1 harg1 x0 b)

/-- Four slab vectors side by side. -/
def Four.row (S : Four F) : FVec F S40x512 .f32 :=
  concatenate S40x512 1 [⟨S40x128, S.s0⟩, ⟨S40x128, S.s1⟩, ⟨S40x128, S.s2⟩, ⟨S40x128, S.s3⟩]
    concatenates_S40x128_S40x128_S40x128_S40x128_S40x512_d1

/-- The candidates of the block's 200 rows. -/
def cand : FVec F S200x512 .f32 :=
  concatenate S200x512 0 [⟨S40x512, (four arg1 harg1 x0 0).row⟩, ⟨S40x512, (four arg1 harg1 x0 1).row⟩,
    ⟨S40x512, (four arg1 harg1 x0 2).row⟩, ⟨S40x512, (four arg1 harg1 x0 3).row⟩, ⟨S40x512, (four arg1 harg1 x0 4).row⟩]
    concatenates_S40x512_S40x512_S40x512_S40x512_S40x512_S200x512_d0

/-- The bracket's upper end at the start. -/
def upper (C : FVec F S200x512 .f32) : FVec F S200x1 .f32 :=
  addf (mulf (maximumf
    (shapeCast S200x1 (multiReduction .maximumf [1] S200 C 0xFF800000#32 reduces_S200x512_S200 (.inl rfl) rfl) shapeCasts_S200_S200x1)
    (broadcast S200x1 (Scalar.ofBits .f32 0x00000000#32 : F .f32)))
    (broadcast S200x1 (Scalar.ofBits .f32 0x3F800347#32 : F .f32)))
    (broadcast S200x1 (Scalar.ofBits .f32 0x1E3CE508#32 : F .f32))

/-- The bracket's middle. -/
def mid (p : FVec F S200x1 .f32 × FVec F S200x1 .f32) : FVec F S200x1 .f32 :=
  mulf (broadcast S200x1 (Scalar.ofBits .f32 0x3F000000#32 : F .f32)) (addf p.1 p.2)

/-- Whether at least 32 candidates of a row reach `m`. -/
def enough (C : FVec F S200x512 .f32) (m : FVec F S200x1 .f32) : IVec S200x1 1 :=
  cmpf .oge
    (shapeCast S200x1 (multiReduction .add [1] S200
      (select (cmpf .oge C (broadcastTo S200x512 m broadcasts_S200x1_S200x512))
        (broadcast S200x512 (Scalar.ofBits .f32 0x3F800000#32 : F .f32))
        (broadcast S200x512 (Scalar.ofBits .f32 0x00000000#32 : F .f32)))
      0x00000000#32 reduces_S200x512_S200 (.inl rfl) rfl) shapeCasts_S200_S200x1)
    (broadcast S200x1 (Scalar.ofBits .f32 0x42000000#32 : F .f32))

/-- One halving of every row's bracket. -/
def halve (C : FVec F S200x512 .f32) (p : FVec F S200x1 .f32 × FVec F S200x1 .f32) : FVec F S200x1 .f32 × FVec F S200x1 .f32 :=
  (select (enough C (mid p)) (mid p) p.1, select (enough C (mid p)) p.2 (mid p))

/-- The brackets after all halvings. -/
def bracket (C : FVec F S200x512 .f32) : FVec F S200x1 .f32 × FVec F S200x1 .f32 :=
  Scf.fold (fun (_ : Fin k0_t1_loop.trips) p => halve C p)
    (broadcast S200x1 (Scalar.ofBits .f32 0x00000000#32 : F .f32), upper C)

/-- The block where it reaches its row's lower end, else zero. -/
def keep (lo : FVec F S200x1 .f32) (x : Vec F S200x10000 .f32) : Vec F S200x10000 .f32 :=
  select (cmpf .oge x (broadcastTo S200x10000 lo broadcasts_S200x1_S200x10000)) x
    (broadcast S200x10000 (Scalar.ofBits .f32 0x00000000#32 : F .f32))

/-- The point's output pieces are one: the block kept. -/
theorem out_pieces (c : Dev nD) (i : grid0.Coords) (arg2 : Memref sig .tc .vmem S200x10000 .f32) (harg2 : arg2.IsWhole) :
    out0_A_1 c i arg1 harg1 arg2 harg2 x0
      = View.read (Elt F) VO0_1 (VO0_1.writes (Elt F) VO0_1.junk
          [⟨Rect.unit ![0, 0] ![200, 10000] inb_S200x10000_S200x10000_0_0,
            keep (bracket (cand arg1 harg1 x0)).1 (View.readAt (Elt F) arg1.view
              (Rect.unit ![0, 0] S200x10000.size inb_S200x10000_S200x10000_0_0).toLoadRect (harg1.unread x0))⟩]) :=
  rfl

/-- What the point leaves in its output block. -/
theorem out_eq (c : Dev nD) (i : grid0.Coords) (arg2 : Memref sig .tc .vmem S200x10000 .f32) (harg2 : arg2.IsWhole) :
    out0_A_1 c i arg1 harg1 arg2 harg2 x0 = keep (bracket (cand arg1 harg1 x0)).1 x0 := by
  have hz : (![0, 0] : Fin 2 → Nat) = fun _ => 0 := by funext a; fin_cases a <;> rfl
  rw [out_pieces, View.read_writes_eq_canon, View.canon_unit_zero hz, View.readAt_full, harg1.read_unread]
  intro y
  exact ⟨_, List.mem_singleton_self _, View.mem_set_unit_zero hz inb_S200x10000_S200x10000_0_0 y⟩

end Cert.KernelIdeal.Lanes

end
-- ==== Proof.Bisect.lean ====
module

public import Idealize.ShloMosaic.PureOps.Ideal.Laws

/-! The mathematics of one row, free of the program: counts of a row's entries at or above a level,
lane by lane; the halving of a bracket by such a count; and what the row masked at the bracket's lower
end is. A row is a function on the naturals that is `⊥` where it has ended. -/

@[expose] public section

noncomputable section

namespace Cert.TopMask

open Finset

/-- The rectified entry. -/
def pos (a : ℕ → EReal) (j : ℕ) : EReal := max (a j) 0

/-- How many entries of the row are at least `x`. -/
def count (a : ℕ → EReal) (x : EReal) : ℕ := ((range 10112).filter fun j => x ≤ a j).card

/-- How many entries of lane `l` are at least `x`. -/
def laneCount (a : ℕ → EReal) (l : ℕ) (x : EReal) : ℕ := ((range 79).filter fun c => x ≤ a (128 * c + l)).card

/-- How many of the lanes' four largest entries are at least `x`. -/
def candCount (a : ℕ → EReal) (x : EReal) : ℕ := ∑ l ∈ range 128, min 4 (laneCount a l x)

/-- A sum over blocks of 128 is the sum over the blocks of the sums in them. -/
theorem sum_blocks (f : ℕ → ℕ) (n : ℕ) :
    ∑ j ∈ range (128 * n), f j = ∑ c ∈ range n, ∑ l ∈ range 128, f (128 * c + l) := by
  induction n with
  | zero => simp
  | succ n ih => rw [Nat.mul_succ, sum_range_add, ih, sum_range_succ (fun c => ∑ l ∈ range 128, f (128 * c + l)) n]

/-- The entries that hold a property, counted lane by lane. -/
theorem sum_lanes (p : ℕ → Prop) [DecidablePred p] :
    ∑ l ∈ range 128, ((range 79).filter fun c => p (128 * c + l)).card = ((range 10112).filter p).card := by
  simp only [card_filter]
  rw [sum_comm]
  exact (sum_blocks (fun j => if p j then 1 else 0) 79).symm

/-- The lanes' counts add up to the row's. -/
theorem sum_laneCount (a : ℕ → EReal) (x : EReal) : ∑ l ∈ range 128, laneCount a l x = count a x :=
  sum_lanes fun j => x ≤ a j

/-- Dropping a lane's entries past four only lowers the count. -/
theorem candCount_le (a : ℕ → EReal) (x : EReal) : candCount a x ≤ count a x := by
  rw [← sum_laneCount]
  exact sum_le_sum fun l _ => min_le_right _ _

/-- With at most four entries in each lane at or above `x` the candidates' count is the row's. -/
theorem candCount_eq (a : ℕ → EReal) (x : EReal) (h : ∀ l < 128, laneCount a l x ≤ 4) : candCount a x = count a x := by
  rw [← sum_laneCount]
  exact sum_congr rfl fun l hl => min_eq_right (h l (mem_range.1 hl))

/-- A higher level is reached by no more candidates. -/
theorem candCount_antitone (a : ℕ → EReal) : Antitone (candCount a) := fun x y h =>
  sum_le_sum fun l _ => min_le_min le_rfl (card_le_card fun c hc => by
    simp only [mem_filter] at hc ⊢
    exact ⟨hc.1, h.trans hc.2⟩)

/-- Some candidate reaches `x` where some entry does. -/
theorem candCount_pos (a : ℕ → EReal) (x : EReal) : 0 < candCount a x ↔ ∃ j < 10112, x ≤ a j := by
  constructor
  · intro h
    have h' := h.trans_le (candCount_le a x)
    obtain ⟨j, hj⟩ := card_pos.1 h'
    simp only [mem_filter, mem_range] at hj
    exact ⟨j, hj⟩
  · rintro ⟨j, hj, hx⟩
    have hl : j % 128 ∈ range 128 := mem_range.2 (Nat.mod_lt _ (by norm_num))
    have h1 : 0 < laneCount a (j % 128) x := card_pos.2 ⟨j / 128, by
      simp only [mem_filter, mem_range]
      exact ⟨by omega, by rwa [Nat.div_add_mod]⟩⟩
    exact lt_of_lt_of_le (lt_min (by norm_num) h1) (single_le_sum (f := fun l => min 4 (laneCount a l x)) (fun _ _ => Nat.zero_le _) hl)

/-- One halving of the bracket: the half in which the count still passes 32. -/
def halveAt (a : ℕ → EReal) (p : EReal × EReal) : EReal × EReal :=
  (if 32 ≤ candCount a (((1 / 2 : ℝ) : EReal) * (p.1 + p.2)) then ((1 / 2 : ℝ) : EReal) * (p.1 + p.2) else p.1,
   if 32 ≤ candCount a (((1 / 2 : ℝ) : EReal) * (p.1 + p.2)) then p.2 else ((1 / 2 : ℝ) : EReal) * (p.1 + p.2))

/-- The lower end is never negative, and is zero or a level that 32 candidates reach. -/
theorem lower_end (a : ℕ → EReal) (h0 : EReal) (hh : 0 ≤ h0) (n : ℕ) :
    (0 ≤ ((halveAt a)^[n] (0, h0)).1 ∧ 0 ≤ ((halveAt a)^[n] (0, h0)).2)
      ∧ (((halveAt a)^[n] (0, h0)).1 = 0 ∨ 32 ≤ candCount a ((halveAt a)^[n] (0, h0)).1) := by
  induction n with
  | zero => exact ⟨⟨le_rfl, hh⟩, .inl rfl⟩
  | succ n ih =>
    rw [Function.iterate_succ_apply']
    generalize (halveAt a)^[n] (0, h0) = p at ih
    obtain ⟨⟨h1, h2⟩, h3⟩ := ih
    have hm : 0 ≤ ((1 / 2 : ℝ) : EReal) * (p.1 + p.2) :=
      mul_nonneg (by exact_mod_cast (by norm_num : (0 : ℝ) ≤ 1 / 2)) (add_nonneg h1 h2)
    unfold halveAt
    split_ifs with hc
    · exact ⟨⟨hm, h2⟩, .inr hc⟩
    · exact ⟨⟨h1, hm⟩, h3⟩

/-- From a finite upper end that too few candidates reach, the bracket stays finite, halves each time, and its upper
end stays a level that too few candidates reach. -/
theorem bracket_ends (a : ℕ → EReal) (h0 : ℝ) (hc : candCount a h0 < 32) (n : ℕ) :
    ∃ l h : ℝ, (halveAt a)^[n] (0, (h0 : EReal)) = ((l : EReal), (h : EReal)) ∧ h - l = h0 / 2 ^ n ∧ candCount a h < 32 := by
  induction n with
  | zero => exact ⟨0, h0, rfl, by simp, hc⟩
  | succ n ih =>
    obtain ⟨l, h, e, hd, hh⟩ := ih
    rw [Function.iterate_succ_apply', e]
    have hm : ((1 / 2 : ℝ) : EReal) * ((l : EReal) + (h : EReal)) = ((1 / 2 * (l + h) : ℝ) : EReal) := by
      rw [EReal.coe_mul, EReal.coe_add]
    unfold halveAt
    simp only [hm]
    split_ifs with hk
    · exact ⟨1 / 2 * (l + h), h, rfl, by rw [pow_succ, ← div_div, ← hd]; ring, hh⟩
    · exact ⟨l, 1 / 2 * (l + h), rfl, by rw [pow_succ, ← div_div, ← hd]; ring, not_le.1 hk⟩

/-- The row masked at the bracket's lower end. -/
def masked (a : ℕ → EReal) (h0 : EReal) (j : ℕ) : EReal := if ((halveAt a)^[18] (0, h0)).1 ≤ a j then a j else 0

/-- The places `σ` hold the row's 32 largest rectified entries, in descending order. -/
structure IsTop (a : ℕ → EReal) (σ : Fin 32 → ℕ) : Prop where
  inj : Function.Injective σ
  lt : ∀ i, σ i < 10112
  desc : ∀ i k, i ≤ k → pos a (σ k) ≤ pos a (σ i)
  rest : ∀ j < 10112, (∀ i, σ i ≠ j) → pos a j ≤ pos a (σ 31)

/-- The row's rectified entry where it is one of the 32, else zero. -/
def topped (a : ℕ → EReal) (σ : Fin 32 → ℕ) (j : ℕ) : EReal := pos a j * if ∃ i, σ i = j then 1 else 0

/-- The level above which the row must hold no more than its 32 largest. -/
def level (a : ℕ → EReal) (σ : Fin 32 → ℕ) (c₁ c₂ c₃ : ℝ) : EReal :=
  max (pos a (σ 31) - (pos a (σ 0) * c₁ + c₂) * c₃) 0

variable {a : ℕ → EReal} {σ : Fin 32 → ℕ}

/-- A rectified entry is not negative. -/
theorem pos_nonneg (j : ℕ) : 0 ≤ pos a j := le_max_right _ _

/-- Rectifying keeps what is positive. -/
theorem pos_of_pos {j : ℕ} (h : 0 < pos a j) : pos a j = a j := by
  unfold pos at h ⊢
  rcases lt_max_iff.1 h with h | h
  · exact max_eq_left h.le
  · exact absurd h (lt_irrefl _)

/-- A positive level is reached by an entry just where the rectified entry reaches it. -/
theorem le_iff_pos {x : EReal} (hx : 0 < x) (j : ℕ) : x ≤ a j ↔ x ≤ pos a j := by
  unfold pos
  rw [le_max_iff]
  exact ⟨.inl, fun h => h.resolve_right (not_le.2 hx)⟩

/-- The set of the 32 places. -/
def places (σ : Fin 32 → ℕ) : Finset ℕ := univ.image σ

/-- The places are 32. -/
theorem card_places (h : IsTop a σ) : (places σ).card = 32 := by
  rw [places, card_image_of_injective _ h.inj]; rfl

/-- Which columns are places. -/
theorem mem_places {j : ℕ} : j ∈ places σ ↔ ∃ i, σ i = j := by simp [places]

/-- A level that 32 entries reach is at most the 32nd largest. -/
theorem le_last (h : IsTop a σ) {x : EReal} (hx : 0 < x) (hc : 32 ≤ count a x) : x ≤ pos a (σ 31) := by
  by_contra hlt
  have hsub : ((range 10112).filter fun j => x ≤ a j) ⊆ (places σ).erase (σ 31) := by
    intro j hj
    simp only [mem_filter, mem_range] at hj
    have hj' := (le_iff_pos hx j).1 hj.2
    rw [mem_erase, mem_places]
    refine ⟨fun e => hlt (e ▸ hj'), ?_⟩
    by_contra hn
    exact hlt (hj'.trans (h.rest j hj.1 fun i e => hn ⟨i, e⟩))
  have h1 := card_le_card hsub
  rw [card_erase_of_mem (mem_places.2 ⟨31, rfl⟩), card_places h] at h1
  unfold count at hc
  omega

/-- With at most 32 positive entries, the row masked is the row rectified: so is the row at its 32 largest. -/
theorem masked_of_few (h : IsTop a σ) {h0 : EReal} (hh : 0 ≤ h0)
    (few : ((range 10112).filter fun j => 0 < pos a j).card ≤ 32) {j : ℕ} (hj : j < 10112) :
    masked a h0 j = topped a σ j := by
  have hm : masked a h0 j = pos a j := by
    unfold masked
    obtain ⟨⟨hl, -⟩, hd⟩ := lower_end a h0 hh 18
    generalize ((halveAt a)^[18] (0, h0)).1 = lo at hl hd
    rcases hd with rfl | hd
    · unfold pos
      split_ifs with h1
      · exact (max_eq_left h1).symm
      · exact (max_eq_right (not_le.1 h1).le).symm
    rcases hl.eq_or_lt with rfl | hl
    · unfold pos
      split_ifs with h1
      · exact (max_eq_left h1).symm
      · exact (max_eq_right (not_le.1 h1).le).symm
    have hall : ((range 10112).filter fun j => lo ≤ a j) = (range 10112).filter fun j => 0 < pos a j :=
      eq_of_subset_of_card_le (fun k hk => by
        simp only [mem_filter] at hk ⊢
        exact ⟨hk.1, hl.trans_le ((le_iff_pos hl k).1 hk.2)⟩)
        (few.trans (hd.trans (candCount_le a lo)))
    have hjj := Finset.ext_iff.1 hall j
    simp only [mem_filter, mem_range, hj, true_and] at hjj
    split_ifs with h1
    · exact (pos_of_pos (hjj.1 h1)).symm
    · exact le_antisymm (pos_nonneg j) (not_lt.1 fun h2 => h1 (hjj.2 h2))
  rw [hm, topped]
  split_ifs with h1
  · rw [mul_one]
  · rw [mul_zero]
    by_contra h2
    have hp : 0 < pos a j := lt_of_le_of_ne (pos_nonneg j) (Ne.symm h2)
    have h31 := hp.trans_le (h.rest j hj fun i e => h1 ⟨i, e⟩)
    have hsub : insert j (places σ) ⊆ (range 10112).filter fun j => 0 < pos a j := by
      intro k hk
      rw [mem_insert, mem_places] at hk
      simp only [mem_filter, mem_range]
      rcases hk with rfl | ⟨i, rfl⟩
      · exact ⟨hj, hp⟩
      · exact ⟨h.lt i, h31.trans_le (h.desc i 31 (Fin.le_last i))⟩
    have := card_le_card hsub
    rw [card_insert_of_notMem (mem_places.not.2 h1), card_places h] at this
    omega

/-- With more than 32 positive entries, no entry but the 32 largest above the level, and no lane with more than four
above it, the row masked is the row at its 32 largest. -/
theorem masked_of_gap (h : IsTop a σ) {c₁ c₂ : ℝ} (hc₁ : 1 ≤ c₁) (hc₂ : 0 < c₂) {h0 : EReal}
    (hh0 : h0 = pos a (σ 0) * c₁ + c₂)
    (many : 32 < ((range 10112).filter fun j => 0 < pos a j).card)
    (gap : ((range 10112).filter fun j => level a σ c₁ c₂ (1 / 2 ^ 18) < pos a j).card ≤ 32)
    (lanes : ∀ l < 128, ((range 79).filter fun c => level a σ c₁ c₂ (1 / 2 ^ 18) < pos a (128 * c + l)).card ≤ 4)
    {j : ℕ} (hj : j < 10112) : masked a h0 j = topped a σ j := by
  -- the largest entry is finite
  have hfin : pos a (σ 0) ≠ ⊤ := by
    intro e
    have hl : level a σ c₁ c₂ (1 / 2 ^ 18) = 0 := by
      unfold level
      rw [e, EReal.top_mul_coe_of_pos (by linarith), EReal.top_add_coe, EReal.top_mul_coe_of_pos (by positivity), EReal.sub_top]
      exact max_eq_right bot_le
    rw [hl] at gap
    omega
  obtain ⟨t, ht⟩ : ∃ t : ℝ, pos a (σ 0) = t :=
    ⟨(pos a (σ 0)).toReal, (EReal.coe_toReal hfin (ne_of_gt (lt_of_lt_of_le EReal.bot_lt_zero (pos_nonneg _)))).symm⟩
  have ht0 : 0 ≤ t := by have := pos_nonneg (a := a) (σ 0); rw [ht] at this; exact_mod_cast this
  have hv := h.desc 0 31 (Fin.zero_le _)
  obtain ⟨v, hvv⟩ : ∃ v : ℝ, pos a (σ 31) = v :=
    ⟨(pos a (σ 31)).toReal, (EReal.coe_toReal (fun e => hfin (top_le_iff.1 (e ▸ hv)))
      (ne_of_gt (lt_of_lt_of_le EReal.bot_lt_zero (pos_nonneg _)))).symm⟩
  -- the 32nd largest is positive
  have hv0 : 0 < v := by
    by_contra hn
    have hz : ∀ k < 10112, 0 < pos a k → k ∈ places σ := fun k hk hp => by
      by_contra hm
      have := hp.trans_le (h.rest k hk fun i e => hm (mem_places.2 ⟨i, e⟩))
      rw [hvv] at this
      exact hn (by exact_mod_cast this)
    have := card_le_card (s := (range 10112).filter fun j => 0 < pos a j) (t := places σ) fun k hk => by
      simp only [mem_filter, mem_range] at hk
      exact hz k hk.1 hk.2
    rw [card_places h] at this
    omega
  set d : ℝ := (t * c₁ + c₂) * (1 / 2 ^ 18) with hd
  have hdpos : 0 < d := by
    have : 0 ≤ t * c₁ := mul_nonneg ht0 (by linarith)
    positivity
  have hlevel : level a σ c₁ c₂ (1 / 2 ^ 18) = ((max (v - d) 0 : ℝ) : EReal) := by
    unfold level
    rw [hvv, ht, ← EReal.coe_mul, ← EReal.coe_add, ← EReal.coe_mul, ← EReal.coe_sub, ← hd, ← EReal.coe_zero]
    exact (EReal.coe_strictMono.monotone.map_max).symm
  rw [hlevel] at gap lanes
  have hlv : ((max (v - d) 0 : ℝ) : EReal) < v := by
    exact_mod_cast max_lt (by linarith) hv0
  -- above the level are exactly the 32 places
  have hsub : places σ ⊆ (range 10112).filter fun j => ((max (v - d) 0 : ℝ) : EReal) < pos a j := by
    intro k hk
    obtain ⟨i, rfl⟩ := mem_places.1 hk
    simp only [mem_filter, mem_range]
    refine ⟨h.lt i, hlv.trans_le ?_⟩
    rw [← hvv]
    exact h.desc i 31 (Fin.le_last i)
  have heq := eq_of_subset_of_card_le hsub (by rw [card_places h]; exact gap)
  -- 32 candidates reach the 32nd largest
  have hvE : (0 : EReal) < (v : EReal) := by exact_mod_cast hv0
  have hcv : 32 ≤ candCount a v := by
    rw [candCount_eq]
    · have : places σ ⊆ (range 10112).filter fun j => (v : EReal) ≤ a j := by
        intro k hk
        obtain ⟨i, rfl⟩ := mem_places.1 hk
        simp only [mem_filter, mem_range]
        refine ⟨h.lt i, (le_iff_pos hvE _).2 ?_⟩
        rw [← hvv]
        exact h.desc i 31 (Fin.le_last i)
      have := card_le_card this
      rwa [card_places h] at this
    · intro l hl
      refine (card_le_card fun c hc => ?_).trans (lanes l hl)
      simp only [mem_filter] at hc ⊢
      exact ⟨hc.1, hlv.trans_le ((le_iff_pos hvE _).1 hc.2)⟩
  -- no candidate reaches the upper end at the start
  have htop : ∀ k < 10112, pos a k ≤ t := by
    intro k hk
    rw [← ht]
    by_cases hm : ∃ i, σ i = k
    · obtain ⟨i, rfl⟩ := hm
      exact h.desc 0 i (Fin.zero_le _)
    · exact (h.rest k hk fun i e => hm ⟨i, e⟩).trans hv
  have hh : h0 = ((t * c₁ + c₂ : ℝ) : EReal) := by rw [hh0, ht, EReal.coe_add, EReal.coe_mul]
  have hgt : t < t * c₁ + c₂ := lt_add_of_le_of_pos (le_mul_of_one_le_right ht0 hc₁) hc₂
  have hstart : candCount a ((t * c₁ + c₂ : ℝ) : EReal) < 32 := by
    have : ¬ 0 < candCount a ((t * c₁ + c₂ : ℝ) : EReal) := by
      rw [candCount_pos]
      rintro ⟨k, hk, hx⟩
      have h1 : (0 : EReal) < ((t * c₁ + c₂ : ℝ) : EReal) := EReal.coe_pos.2 (ht0.trans_lt hgt)
      have h2 : ((t * c₁ + c₂ : ℝ) : EReal) ≤ t := ((le_iff_pos h1 k).1 hx).trans (htop k hk)
      exact absurd hgt (not_lt.2 (EReal.coe_le_coe_iff.1 h2))
    omega
  -- the bracket at the end
  have hnn : 0 ≤ h0 := by rw [hh]; exact_mod_cast (ht0.trans_lt hgt).le
  obtain ⟨⟨hl0, -⟩, hdis⟩ := lower_end a h0 hnn 18
  obtain ⟨lo, hi, he, hw, hhi⟩ := bracket_ends a (t * c₁ + c₂) hstart 18
  rw [← hh] at he
  rw [he] at hl0 hdis
  dsimp only at hl0 hdis
  have hlo0 : 0 ≤ lo := by exact_mod_cast hl0
  have hhiv : v < hi := by
    by_contra hn
    have := candCount_antitone a (show ((hi : ℝ) : EReal) ≤ v by exact_mod_cast not_lt.1 hn)
    omega
  have hlv' : lo ≤ v := by
    rcases hdis with e | e
    · have : lo = 0 := by exact_mod_cast e
      linarith
    · rcases hlo0.eq_or_lt with e0 | e0
      · linarith
      · have := le_last h (show (0 : EReal) < lo by exact_mod_cast e0) (e.trans (candCount_le a _))
        rw [hvv] at this
        exact_mod_cast this
  have hld : v - d < lo := by
    have : hi - lo = d := by rw [hw, hd]; ring
    linarith
  unfold masked topped
  rw [he]
  dsimp only
  by_cases hm : ∃ i, σ i = j
  · rw [if_pos hm, mul_one]
    obtain ⟨i, rfl⟩ := hm
    have h1 : (v : EReal) ≤ pos a (σ i) := by rw [← hvv]; exact h.desc i 31 (Fin.le_last i)
    have h2 := pos_of_pos (hvE.trans_le h1)
    rw [if_pos, h2]
    rw [← h2]
    exact le_trans (by exact_mod_cast hlv') h1
  · rw [if_neg hm, mul_zero]
    have hn : ¬ ((max (v - d) 0 : ℝ) : EReal) < pos a j := fun hlt => hm (mem_places.1 (by
      rw [heq]
      simp only [mem_filter, mem_range]
      exact ⟨hj, hlt⟩))
    split_ifs with h1
    · have ha0 : 0 ≤ a j := hl0.trans h1
      have hpa : pos a j = a j := max_eq_left ha0
      rw [hpa] at hn
      refine le_antisymm (not_lt.1 fun h2 => hn ?_) ha0
      refine lt_of_lt_of_le ?_ (le_refl (a j))
      rcases le_or_gt (v - d) 0 with h3 | h3
      · rw [max_eq_right h3]; exact_mod_cast h2
      · rw [max_eq_left h3.le]; exact lt_of_lt_of_le (by exact_mod_cast hld) h1
    · rfl

end Cert.TopMask

end
-- ==== Proof.Network.lean ====
module

public import proofs.«01_k».proof.Proof.Lanes
public import proofs.«01_k».proof.Proof.Bisect
public import Idealize.ShloMosaic.Lib.Pointwise

/-! The slab's network at exact values: at each row and lane, how many entries reach a level decides which of the four
vectors reach it. -/

@[expose] public section

set_option maxRecDepth 16384

noncomputable section

namespace Cert.KernelIdeal.Lanes

open Cert.KernelIdeal Cert.KernelIdeal.Gen Idealize.ShloMosaic Idealize.ShloMosaic.TcCoe Idealize.SL.Sem
open Finset

/-- One where `x ≤ y`, else zero. -/
def reach (x y : EReal) : ℕ := if x ≤ y then 1 else 0

/-- At index `i`, `n x` entries reach each level `x`, and `S` holds the four largest of them in order. -/
def Ranks (S : Four Ideal) (i : S40x128.Idx) (n : EReal → ℕ) : Prop :=
  ∀ x, (x ≤ S.s0 i ↔ 0 < n x) ∧ (x ≤ S.s1 i ↔ 1 < n x) ∧ (x ≤ S.s2 i ↔ 2 < n x) ∧ (x ≤ S.s3 i ↔ 3 < n x)

/-- A maximum of two vectors, entry by entry. -/
theorem max_at (a b : Slab Ideal) (i : S40x128.Idx) : maximumf a b i = max (a i) (b i) := rfl

/-- A minimum of two vectors, entry by entry. -/
theorem min_at (a b : Slab Ideal) (i : S40x128.Idx) : minimumf a b i = min (a i) (b i) := rfl

/-- The first four chunks, once compared in pairs, are in order. -/
theorem ranks_seed (a b c d : Slab Ideal) (i : S40x128.Idx) :
    Ranks (seed a b c d) i fun x => reach x (a i) + reach x (b i) + reach x (c i) + reach x (d i) := by
  intro x
  simp only [seed, max_at, min_at, le_max_iff, le_min_iff, reach]
  by_cases ha : x ≤ a i <;> by_cases hb : x ≤ b i <;> by_cases hc : x ≤ c i <;> by_cases hd : x ≤ d i <;> simp [ha, hb, hc, hd]

/-- Inserting two chunks keeps the four largest of all in order. -/
theorem ranks_insertTwo {S : Four Ideal} {i : S40x128.Idx} {n : EReal → ℕ} (h : Ranks S i n) (a b : Slab Ideal) :
    Ranks (insertTwo S a b) i fun x => n x + reach x (a i) + reach x (b i) := by
  intro x
  obtain ⟨h0, h1, h2, h3⟩ := h x
  simp only [insertTwo, settle, max_at, min_at, le_max_iff, le_min_iff, reach, h0, h1, h2, h3]
  clear h0 h1 h2 h3 h
  beta_reduce
  generalize n x = k
  by_cases ha : x ≤ a i <;> by_cases hb : x ≤ b i <;>
    simp only [ha, hb, if_true, if_false, and_true, and_false, true_and, false_and, or_true, or_false, true_or, false_or, true_iff] <;> omega

/-- Inserting one chunk keeps the four largest of all in order. -/
theorem ranks_insertOne {S : Four Ideal} {i : S40x128.Idx} {n : EReal → ℕ} (h : Ranks S i n) (v : Slab Ideal) :
    Ranks (insertOne S v) i fun x => n x + reach x (v i) := by
  intro x
  obtain ⟨h0, h1, h2, h3⟩ := h x
  simp only [insertOne, max_at, min_at, le_max_iff, le_min_iff, reach, h0, h1, h2, h3]
  clear h0 h1 h2 h3 h
  beta_reduce
  generalize n x = k
  by_cases hv : x ≤ v i <;>
    simp only [hv, if_true, if_false, and_true, and_false, or_true, or_false, true_iff] <;> omega

/-- After `n` pairs the network has seen its first `2 n + 4` vectors. -/
theorem ranks_network (ld : ℕ → Slab Ideal) (i : S40x128.Idx) (n : ℕ) :
    Ranks (network ld n) i fun x => ∑ c ∈ range (2 * n + 4), reach x (ld c i) := by
  induction n with
  | zero =>
    simp only [mul_zero, zero_add, sum_range_succ, sum_range_zero]
    exact ranks_seed (ld 0) (ld 1) (ld 2) (ld 3) i
  | succ n ih =>
    have := ranks_insertTwo ih (ld (2 * n + 4)) (ld (2 * n + 5))
    have e : 2 * (n + 1) + 4 = (2 * n + 4) + 1 + 1 := by ring
    simp only [e, sum_range_succ _ (2 * n + 4 + 1), sum_range_succ _ (2 * n + 4)]
    exact this

variable (arg1 : Memref sig .tc .vmem S200x10000 .f32) (harg1 : arg1.IsWhole) (x0 : Vec Ideal S200x10000 .f32)

/-- Row `r` of a block, `⊥` past its end. -/
def blockRow (x0 : Vec Ideal S200x10000 .f32) (r : Fin 200) (j : ℕ) : EReal :=
  if h : j < 10000 then x0 (ix2 r ⟨j, h⟩) else ⊥

/-- The row of the block that is row `r` of slab `b`. -/
def slabRow (b : Fin 5) (r : Fin 40) : Fin 200 := ⟨40 * b.val + r.val, by omega⟩

/-- Entry of a slab's whole chunk: the block's row at that chunk's column. -/
theorem chunk_at (b : Fin 5) (c : ℕ) (hc : c < 78) (r : Fin 40) (l : Fin 128) :
    chunk arg1 harg1 x0 b c (ix2 r l) = blockRow x0 (slabRow b r) (128 * c + l.val) := by
  have hj : 128 * c + l.val < 10000 := by omega
  rw [chunk, harg1.readAt_unread, blockRow, dif_pos hj]
  congr 1
  funext a
  apply Fin.ext
  fin_cases a
  · simp [LoadRect.idx, Rect.unit, slabRow, ix2]
  · simp [LoadRect.idx, Rect.unit, ix2, Nat.mod_eq_of_lt hc]

/-- Entry of a slab's last chunk: the block's row where the row goes on, else minus infinity. -/
theorem tail_at (b : Fin 5) (r : Fin 40) (l : Fin 128) :
    tail arg1 harg1 x0 b (ix2 r l) = blockRow x0 (slabRow b r) (128 * 78 + l.val) := by
  unfold tail
  by_cases hl : l.val < 16
  · have hj : 128 * 78 + l.val < 10000 := by omega
    pointwise
    rw [dif_pos hl, blockRow, dif_pos (by omega), lastCols, harg1.readAt_unread]
    congr 1
    funext a
    apply Fin.ext
    fin_cases a
    · simp [LoadRect.idx, Rect.unit, slabRow, ix2]
    · simp [LoadRect.idx, Rect.unit, ix2]
  · pointwise
    rw [dif_neg hl, blockRow, dif_neg (by omega)]
    simp [Ideal.ofBits, Ideal.ieee]

/-- Slab `b`'s four vectors at a row and lane, by the lane's count. -/
theorem ranks_four (b : Fin 5) (r : Fin 40) (l : Fin 128) :
    Ranks (four arg1 harg1 x0 b) (ix2 r l) (TopMask.laneCount (blockRow x0 (slabRow b r)) l.val) := by
  have h : Ranks (four arg1 harg1 x0 b) (ix2 r l) fun x =>
      (∑ c ∈ range 78, reach x (chunk arg1 harg1 x0 b c (ix2 r l))) + reach x (tail arg1 harg1 x0 b (ix2 r l)) :=
    ranks_insertOne (ranks_network (chunk arg1 harg1 x0 b) (ix2 r l) 37) (tail arg1 harg1 x0 b)
  have e : ∀ x, TopMask.laneCount (blockRow x0 (slabRow b r)) l.val x = (∑ c ∈ range 78,
      reach x (chunk arg1 harg1 x0 b c (ix2 r l))) + reach x (tail arg1 harg1 x0 b (ix2 r l)) := by
    intro x
    have e1 : ∀ c ∈ range 78, reach x (chunk arg1 harg1 x0 b c (ix2 r l))
        = reach x (blockRow x0 (slabRow b r) (128 * c + l.val)) := fun c hc => by
      rw [chunk_at _ _ _ _ _ (mem_range.1 hc)]
    rw [sum_congr rfl e1, tail_at, TopMask.laneCount, card_filter, sum_range_succ _ 78]
    simp only [reach]
  intro x
  rw [e x]
  exact h x

end Cert.KernelIdeal.Lanes

end
-- ==== Proof.Block.lean ====
module

public import proofs.«01_k».proof.Proof.Network

/-! What a grid point writes, read row by row at exact values: each row keeps the entries that reach the lower end of a
bracket halved eighteen times over the row's counts. -/

@[expose] public section

set_option maxRecDepth 16384

noncomputable section

namespace Cert.KernelIdeal.Lanes

open Cert.KernelIdeal Cert.KernelIdeal.Gen Idealize.ShloMosaic Idealize.ShloMosaic.TcCoe Idealize.SL.Sem
open Finset

/-- The factor of the bracket's upper end, `1 + 1e-4` as rounded. -/
def c1 : ℝ := 8389447 / 8388608

/-- The offset of the bracket's upper end, `1e-20` as rounded. -/
def c2 : ℝ := 12379400 / 2 ^ 90

/-- The factor of the bracket's upper end is at least one. -/
theorem one_le_c1 : 1 ≤ c1 := by unfold c1; norm_num
/-- The offset of the bracket's upper end is positive. -/
theorem c2_pos : 0 < c2 := by unfold c2; norm_num

/-- The word of the bracket's factor. -/
theorem ofBits_c1 : Ideal.ofBits .f32 0x3F800347#32 = (c1 : EReal) := by
  unfold c1
  simp [Ideal.ofBits, Ideal.ieee, -EReal.coe_mul]
  norm_num

/-- The word of the bracket's offset. -/
theorem ofBits_c2 : Ideal.ofBits .f32 0x1E3CE508#32 = (c2 : EReal) := by
  unfold c2
  simp [Ideal.ofBits, Ideal.ieee, -EReal.coe_mul]
  norm_num

/-- The word of one half. -/
theorem ofBits_half : Ideal.ofBits .f32 0x3F000000#32 = ((1 / 2 : ℝ) : EReal) := by
  simp [Ideal.ofBits, Ideal.ieee, -EReal.coe_mul]
  norm_num

/-- The word of 32. -/
theorem ofBits_32 : Ideal.ofBits .f32 0x42000000#32 = ((32 : ℝ) : EReal) := by
  simp [Ideal.ofBits, Ideal.ieee, -EReal.coe_mul]
  norm_num

/-- The word of minus infinity. -/
theorem ofBits_bot : Ideal.ofBits .f32 0xFF800000#32 = (⊥ : EReal) := by
  simp [Ideal.ofBits, Ideal.ieee]

/-- A sum of ones and zeros counts the ones. -/
theorem sum_ones {ι : Type} [DecidableEq ι] (s : Finset ι) (p : ι → Prop) [DecidablePred p] :
    (∑ x ∈ s, if p x then (1 : EReal) else 0) = (((s.filter p).card : ℝ) : EReal) := by
  induction s using Finset.induction_on with
  | empty => simp
  | insert a s ha ih =>
    rw [sum_insert ha, filter_insert, ih]
    by_cases h : p a
    · rw [if_pos h, if_pos h, card_insert_of_notMem (fun h' => ha (mem_filter.1 h').1), add_comm]
      push_cast
      rfl
    · rw [if_neg h, if_neg h, zero_add]

/-- The `q`-th of four slab vectors. -/
def Four.nth (S : Four Ideal) (q : Fin 4) : Slab Ideal := ![S.s0, S.s1, S.s2, S.s3] q

/-- The four vectors side by side, read at a vector and a lane. -/
theorem row_at (S : Four Ideal) (r : Fin 40) (q : Fin 4) (l : Fin 128) :
    S.row (ix2 r (⟨128 * q.val + l.val, by omega⟩ : Fin 512)) = S.nth q (ix2 r l) := by
  unfold Four.row
  fin_cases q
  · pointwise
    rfl
  · pointwise
    rfl
  · pointwise
    rw [dif_neg (by omega), dif_neg (by omega), dif_pos (by omega)]
    exact congrArg (fun z => S.s2 (ix2 r z)) (Fin.ext (by show 256 + l.val - 128 - 128 = l.val; omega))
  · pointwise
    rw [dif_neg (by omega), dif_neg (by omega), dif_neg (by omega)]
    exact congrArg (fun z => S.s3 (ix2 r z)) (Fin.ext (by show 384 + l.val - 128 - 128 - 128 = l.val; omega))

variable (arg1 : Memref sig .tc .vmem S200x10000 .f32) (harg1 : arg1.IsWhole) (x0 : Vec Ideal S200x10000 .f32)

/-- A row's candidates, read at one of the five slabs. -/
theorem cand_at (b : Fin 5) (r : Fin 40) (k : Fin 512) :
    cand arg1 harg1 x0 (ix2 (slabRow b r) k) = (four arg1 harg1 x0 b).row (ix2 r k) := by
  unfold cand
  generalize four arg1 harg1 x0 = S
  have hv : (slabRow b r).val = 40 * b.val + r.val := rfl
  generalize slabRow b r = s at hv ⊢
  pointwise
  have hr := r.isLt
  have hb := b.isLt
  have e : ∀ (b' : Fin 5) (z : Fin 40), b'.val = b.val → z.val = r.val → (S b').row (ix2 z k) = (S b).row (ix2 r k) := by
    intro b' z h h'
    rw [Fin.ext h, Fin.ext h']
  have e0 : (0 : Fin 5).val = 0 ∧ (1 : Fin 5).val = 1 ∧ (2 : Fin 5).val = 2 ∧ (3 : Fin 5).val = 3 ∧ (4 : Fin 5).val = 4 := by decide
  split
  · exact e _ _ (by omega) (by dsimp only; omega)
  split
  · exact e _ _ (by omega) (by dsimp only; omega)
  split
  · exact e _ _ (by omega) (by dsimp only; omega)
  split
  · exact e _ _ (by omega) (by dsimp only; omega)
  · exact e _ _ (by omega) (by dsimp only; omega)

/-- A row's candidates that reach `x`, counted. -/
theorem card_cand (r : Fin 200) (x : EReal) :
    ((univ : Finset (Fin 512)).filter fun k => x ≤ cand arg1 harg1 x0 (ix2 r k)).card = TopMask.candCount (blockRow x0 r) x := by
  obtain ⟨b, r', rfl⟩ : ∃ b r', r = slabRow b r' :=
    ⟨⟨r.val / 40, by omega⟩, ⟨r.val % 40, by omega⟩, Fin.ext (by simp only [slabRow]; omega)⟩
  simp only [cand_at]
  rw [card_filter, ← (finProdFinEquiv (m := 4) (n := 128)).sum_comp, Fintype.sum_prod_type, sum_comm, TopMask.candCount,
    ← Fin.sum_univ_eq_sum_range (fun l => min 4 (TopMask.laneCount (blockRow x0 (slabRow b r')) l x)) 128]
  refine sum_congr rfl fun l _ => ?_
  have e : ∀ q : Fin 4, (four arg1 harg1 x0 b).row (ix2 r' (finProdFinEquiv (q, l))) = (four arg1 harg1 x0 b).nth q (ix2 r' l) := by
    intro q
    rw [← row_at]
    congr 2
    apply Fin.ext
    simp [finProdFinEquiv, add_comm]
  simp only [e]
  obtain ⟨h0, h1, h2, h3⟩ := ranks_four arg1 harg1 x0 b r' l x
  have e0 : x ≤ (four arg1 harg1 x0 b).nth 0 (ix2 r' l) ↔ _ := h0
  have e1 : x ≤ (four arg1 harg1 x0 b).nth 1 (ix2 r' l) ↔ _ := h1
  have e2 : x ≤ (four arg1 harg1 x0 b).nth 2 (ix2 r' l) ↔ _ := h2
  have e3 : x ≤ (four arg1 harg1 x0 b).nth 3 (ix2 r' l) ↔ _ := h3
  rw [Fin.sum_univ_four]
  simp only [e0, e1, e2, e3]
  split_ifs <;> omega

/-- The test of a halving: whether 32 candidates of the row reach the level. -/
theorem enough_at (r : Fin 200) (m : FVec Ideal S200x1 .f32) :
    enough (cand arg1 harg1 x0) m (ix2 r (0 : Fin 1)) = 1#1 ↔ 32 ≤ TopMask.candCount (blockRow x0 r) (m (ix2 r (0 : Fin 1))) := by
  rw [← card_cand arg1 harg1]
  unfold enough
  generalize cand arg1 harg1 x0 = C
  pointwise
  simp only [sum_ones, ofBits_32, EReal.coe_le_coe_iff]
  generalize card _ = n
  by_cases h : 32 ≤ n
  · have : (32 : ℝ) ≤ n := by exact_mod_cast h
    simp [this, h]
  · have : ¬ (32 : ℝ) ≤ n := by exact_mod_cast h
    simp [this, h]

/-- One halving of the bracket, at a row. -/
theorem halve_at (r : Fin 200) (p : FVec Ideal S200x1 .f32 × FVec Ideal S200x1 .f32) :
    ((halve (cand arg1 harg1 x0) p).1 (ix2 r (0 : Fin 1)), (halve (cand arg1 harg1 x0) p).2 (ix2 r (0 : Fin 1)))
      = TopMask.halveAt (blockRow x0 r) (p.1 (ix2 r (0 : Fin 1)), p.2 (ix2 r (0 : Fin 1))) := by
  have hm : mid p (ix2 r (0 : Fin 1)) = ((1 / 2 : ℝ) : EReal) * (p.1 (ix2 r (0 : Fin 1)) + p.2 (ix2 r (0 : Fin 1))) := by
    unfold mid
    pointwise
    rw [ofBits_half]
  have he := enough_at arg1 harg1 x0 r (mid p)
  rw [hm] at he
  unfold halve TopMask.halveAt
  simp only [select]
  rw [hm]
  by_cases h : 32 ≤ TopMask.candCount (blockRow x0 r) (((1 / 2 : ℝ) : EReal) * (p.1 (ix2 r (0 : Fin 1)) + p.2 (ix2 r (0 : Fin 1))))
  · rw [he.2 h, if_pos h, if_pos h]; rfl
  · have : enough (cand arg1 harg1 x0) (mid p) (ix2 r (0 : Fin 1)) = 0#1 := by
      have := mt he.1 h
      exact (BitVec.eq_zero_or_eq_one _).resolve_right this
    rw [this, if_neg h, if_neg h]; rfl

/-- The loop halves 18 times. -/
theorem trips_eq : k0_t1_loop.trips = 18 := by decide

/-- Repeated halvings act on each row by itself. -/
theorem foldl_at {α : Type} (r : Fin 200) (L : List α) (p : FVec Ideal S200x1 .f32 × FVec Ideal S200x1 .f32) :
    ((L.foldl (fun q _ => halve (cand arg1 harg1 x0) q) p).1 (ix2 r (0 : Fin 1)),
      (L.foldl (fun q _ => halve (cand arg1 harg1 x0) q) p).2 (ix2 r (0 : Fin 1)))
      = (TopMask.halveAt (blockRow x0 r))^[L.length] (p.1 (ix2 r (0 : Fin 1)), p.2 (ix2 r (0 : Fin 1))) := by
  induction L generalizing p with
  | nil => rfl
  | cons _ L ih => rw [List.foldl_cons, ih, List.length_cons, Function.iterate_succ_apply, halve_at]

/-- The lower end of a row's bracket after the loop: 18 halvings from zero and the upper end. -/
theorem bracket_at (r : Fin 200) :
    (bracket (cand arg1 harg1 x0)).1 (ix2 r (0 : Fin 1))
      = ((TopMask.halveAt (blockRow x0 r))^[18] (0, upper (cand arg1 harg1 x0) (ix2 r (0 : Fin 1)))).1 := by
  have h := foldl_at arg1 harg1 x0 r (List.finRange k0_t1_loop.trips)
    (broadcast S200x1 (Scalar.ofBits .f32 0x00000000#32 : Ideal .f32), upper (cand arg1 harg1 x0))
  rw [List.length_finRange, trips_eq] at h
  have hz : broadcast S200x1 (Scalar.ofBits .f32 0x00000000#32 : Ideal .f32) (ix2 r (0 : Fin 1)) = 0 := by pointwise
  dsimp only at h
  rw [hz] at h
  unfold bracket
  rw [Scf.fold_eq]
  exact congrArg Prod.fst h

/-- The bracket's upper end, from the row's largest rectified entry. -/
theorem upper_at (r : Fin 200) :
    ∃ M : EReal, 0 ≤ M ∧ upper (cand arg1 harg1 x0) (ix2 r (0 : Fin 1)) = M * c1 + c2 ∧
      ∀ x, 0 < x → (x ≤ M ↔ ∃ j < 10112, x ≤ blockRow x0 r j) := by
  refine ⟨max ((univ : Finset (Fin 512)).fold max ⊥ fun k => cand arg1 harg1 x0 (ix2 r k)) 0, le_max_right _ _, ?_, ?_⟩
  · unfold upper
    generalize cand arg1 harg1 x0 = C
    pointwise
    rw [ofBits_c1, ofBits_c2, ofBits_bot]
  · intro x hx
    rw [← TopMask.candCount_pos, ← card_cand arg1 harg1, card_pos, le_max_iff, or_iff_left (not_le.2 hx), le_fold_max,
      or_iff_right (not_le.2 (bot_le.trans_lt hx))]
    constructor
    · rintro ⟨k, _, h⟩; exact ⟨k, mem_filter.2 ⟨mem_univ _, h⟩⟩
    · rintro ⟨k, h⟩; exact ⟨k, mem_univ _, (mem_filter.1 h).2⟩

/-- The output's entry: the input's where it reaches the level, else zero. -/
theorem keep_at (lo : FVec Ideal S200x1 .f32) (x : Vec Ideal S200x10000 .f32) (r : Fin 200) (j : Fin 10000) :
    keep lo x (ix2 r j) = if lo (ix2 r (0 : Fin 1)) ≤ x (ix2 r j) then x (ix2 r j) else 0 := by
  unfold keep
  pointwise

/-- Row `r` of what a point writes is the row masked by a bracket that starts just above the row's largest rectified
entry. -/
theorem out_row (r : Fin 200) :
    ∃ h0 : EReal, 0 ≤ h0 ∧ (∀ σ, TopMask.IsTop (blockRow x0 r) σ → h0 = TopMask.pos (blockRow x0 r) (σ 0) * c1 + c2) ∧
      ∀ j : Fin 10000, keep (bracket (cand arg1 harg1 x0)).1 x0 (ix2 r j) = TopMask.masked (blockRow x0 r) h0 j.val := by
  obtain ⟨M, hM0, hM, hx⟩ := upper_at arg1 harg1 x0 r
  have hc1 : (0 : EReal) ≤ c1 := EReal.coe_nonneg.2 (zero_le_one.trans one_le_c1)
  have hc2 : (0 : EReal) ≤ c2 := EReal.coe_nonneg.2 c2_pos.le
  refine ⟨M * c1 + c2, add_nonneg (mul_nonneg hM0 hc1) hc2, ?_, ?_⟩
  · intro σ hσ
    have htop : ∀ j < 10112, TopMask.pos (blockRow x0 r) j ≤ TopMask.pos (blockRow x0 r) (σ 0) := by
      intro j hj
      by_cases h : ∃ i, σ i = j
      · obtain ⟨i, rfl⟩ := h; exact hσ.desc 0 i (Fin.zero_le i)
      · exact (hσ.rest j hj fun i hi => h ⟨i, hi⟩).trans (hσ.desc 0 31 (Fin.zero_le _))
    have : M = TopMask.pos (blockRow x0 r) (σ 0) := by
      apply le_antisymm
      · rcases hM0.eq_or_lt with h | h
        · rw [← h]; exact TopMask.pos_nonneg _
        · obtain ⟨j, hj, hle⟩ := (hx M h).1 le_rfl
          exact ((TopMask.le_iff_pos h j).1 hle).trans (htop j hj)
      · rcases (TopMask.pos_nonneg (a := blockRow x0 r) (σ 0)).eq_or_lt with h | h
        · rw [← h]; exact hM0
        · exact (hx _ h).2 ⟨σ 0, hσ.lt 0, (TopMask.le_iff_pos h _).2 le_rfl⟩
    rw [this]
  · intro j
    rw [keep_at, bracket_at, hM, TopMask.masked]
    have : blockRow x0 r j.val = x0 (ix2 r j) := by rw [blockRow, dif_pos j.isLt]
    rw [this]

end Cert.KernelIdeal.Lanes

end
-- ==== Proof.Array.lean ====
module

public import proofs.«01_k».proof.Proof.Block

/-! The kernel's result array after a run, row by row at exact values. -/

@[expose] public section

set_option maxRecDepth 16384

noncomputable section

namespace Cert.KernelIdeal.Rows

open Cert.KernelIdeal Cert.KernelIdeal.Gen Cert.KernelIdeal.Lanes Idealize.ShloMosaic Idealize.ShloMosaic.TcCoe Idealize.SL.Sem

/-- Row `r` of a square array, `⊥` past its end. -/
def arrRow (A : (⟨2, ![10000, 10000]⟩ : Shape).Idx → EReal) (r : Fin 10000) (j : ℕ) : EReal :=
  if h : j < 10000 then A (ix2 r ⟨j, h⟩) else ⊥

variable (m : (ℓ : Loc nD τ sig) → Buf (Elt Ideal) ℓ)

/-- Point `t`'s block starts at row `200 t` of the array, on both sides. -/
theorem idx_in : ∀ t : Fin cfg0.N, win0_0.index t (0 : Fin 2) = t.val ∧ win0_0.index t (1 : Fin 2) = 0 :=
  (by decide +kernel : ∀ t : Fin grid0.N, _)

/-- Point `t` writes the result's block `t`. -/
theorem idx_out : ∀ t : Fin cfg0.N, win0_1.index t (0 : Fin 2) = t.val ∧ win0_1.index t (1 : Fin 2) = 0 :=
  (by decide +kernel : ∀ t : Fin grid0.N, _)

/-- Row `r` of point `t`'s block is this row of the array. -/
def row (t : Fin 50) (r : Fin 200) : Fin 10000 := ⟨200 * t.val + r.val, by omega⟩

/-- Where an entry of point `t`'s block lies in the argument. -/
theorem emb_in (t : Fin 50) (r : Fin 200) (j : Fin 10000) :
    ((cfg0.win 0).blk (t : Fin cfg0.N)).view.emb (ix2 r j) = ix2 (row t r) j := by
  obtain ⟨e0, e1⟩ := idx_in t
  funext a; apply Fin.ext
  match a with
  | ⟨0, _⟩ => show win0_0.index t (0 : Fin 2) * 200 + 1 * r.val = 200 * t.val + r.val; omega
  | ⟨1, _⟩ => show win0_0.index t (1 : Fin 2) * 10000 + 1 * j.val = j.val; omega

/-- Where an entry of point `t`'s block lies in the result. -/
theorem emb_out (t : Fin 50) (r : Fin 200) (j : Fin 10000) :
    ((cfg0.win 1).blk (t : Fin cfg0.N)).view.emb (ix2 r j) = ix2 (row t r) j := by
  obtain ⟨e0, e1⟩ := idx_out t
  funext a; apply Fin.ext
  match a with
  | ⟨0, _⟩ => show win0_1.index t (0 : Fin 2) * 200 + 1 * r.val = 200 * t.val + r.val; omega
  | ⟨1, _⟩ => show win0_1.index t (1 : Fin 2) * 10000 + 1 * j.val = j.val; omega

/-- A row of the block that point `t` reads is a row of the argument. -/
theorem blockRow_eq (c : Dev nD) (t : Fin 50) (r : Fin 200) :
    blockRow (iblk m c 0 t) r = arrRow (m ((c : Thread nD τ).loc main_arg1)) (row t r) := by
  funext j
  unfold blockRow arrRow
  by_cases h : j < 10000
  · rw [dif_pos h, dif_pos h]
    show V m c main_arg1 (((cfg0.win 0).blk (t : Fin cfg0.N)).view.emb (ix2 r ⟨j, h⟩)) = _
    rw [emb_in, V_main_arg1]
  · rw [dif_neg h, dif_neg h]

/-- Row `r` of the result array is the argument's row masked by a bracket that starts just above the row's largest
rectified entry. -/
theorem array_row (c : Dev nD) (r : Fin 10000) :
    ∃ h0 : EReal, 0 ≤ h0 ∧
      (∀ σ, TopMask.IsTop (arrRow (m ((c : Thread nD τ).loc main_arg1)) r) σ →
        h0 = TopMask.pos (arrRow (m ((c : Thread nD τ).loc main_arg1)) r) (σ 0) * c1 + c2) ∧
      ∀ j : Fin 10000, (dats m 0 c).arrAt 1 cfg0.N (ix2 r j)
        = TopMask.masked (arrRow (m ((c : Thread nD τ).loc main_arg1)) r) h0 j.val := by
  obtain ⟨t, r', rfl⟩ : ∃ t r', r = row t r' :=
    ⟨⟨r.val / 200, by omega⟩, ⟨r.val % 200, by omega⟩, Fin.ext (by simp only [row]; omega)⟩
  obtain ⟨h0, hh, hσ, hj⟩ := out_row (ms0_0 (t : Fin cfg0.N)) (hs0_0 (t : Fin cfg0.N)) (iblk m c 0 t) r'
  rw [blockRow_eq] at hσ hj
  refine ⟨h0, hh, hσ, fun j => ?_⟩
  rw [← hj j, ← emb_out t r' j]
  have h := (congrFun (Value.blocks1 m c (t : Fin cfg0.N) (flush0_1 _)) (ix2 r' j)).trans
    (congrFun (Value.flushed1_A m c (t : Fin cfg0.N)) (ix2 r' j))
  exact h.trans (congrFun (out_eq _ _ _ _ _ _ _) (ix2 r' j))

end Cert.KernelIdeal.Rows

end
-- ==== Proof.TopRow.lean ====
module

public import proofs.«01_k».proof.Proof.Array
public import Idealize.ShloMosaic.Lib.SortFacts

/-! The sorted places of a row: what a row's top-32 values and indices are at exact values. -/

@[expose] public section

set_option maxRecDepth 16384

noncomputable section

namespace Cert.KernelIdeal.Rows

open Idealize.ShloMosaic Idealize.ShloMosaic.TcCoe Idealize.SL.Sem

section sorted

variable {N M K : ℕ} (hK : K ≤ M)

/-- Whether row `r`'s entry at `k` is greater than the one at `k'`. -/
def greater (X : FVec Ideal ⟨2, ![N, M]⟩ .f32) (r : Fin N) (k k' : Fin M) : Bool :=
  FloatOps.cmpfTotal .gt (X (ix2 r k)) (X (ix2 r k')) == 1#1

/-- The column that lands at place `i` when row `r` is sorted, greater first. -/
def placeOf (X : FVec Ideal ⟨2, ![N, M]⟩ .f32) (r : Fin N) (i : Fin K) : Fin M := sortedFrom (greater X r) (i.castLE hK)

/-- One entry is sorted before another where it is greater. -/
theorem greater_iff (X : FVec Ideal ⟨2, ![N, M]⟩ .f32) (r : Fin N) (k k' : Fin M) :
    greater X r k k' = decide (X (ix2 r k') < X (ix2 r k)) := by
  show (BitVec.ofBool (decide (X (ix2 r k') < X (ix2 r k))) == 1#1) = _
  by_cases h : X (ix2 r k') < X (ix2 r k) <;> simp [h]

/-- A later place holds no greater entry. -/
theorem sorted_le (X : FVec Ideal ⟨2, ![N, M]⟩ .f32) (r : Fin N) (i j : Fin M) (h : i ≤ j) :
    X (ix2 r (sortedFrom (greater X r) j)) ≤ X (ix2 r (sortedFrom (greater X r) i)) := by
  rcases h.eq_or_lt with rfl | h
  · exact le_rfl
  have := sortedFrom_noInversion (greater X r) (greater X r)
    (fun a b hab => by
      rw [greater_iff, decide_eq_true_eq] at hab
      rw [greater_iff, decide_eq_false_iff_not]
      exact hab.not_gt)
    (fun a b hab => hab)
    (fun a b c hab hbc => by
      rw [greater_iff, decide_eq_false_iff_not, not_lt] at *
      exact hab.trans hbc) i j h
  rw [greater_iff, decide_eq_false_iff_not, not_lt] at this
  exact this

/-- Moving along a row changes the column alone. -/
theorem along_row (r : Fin N) (k p : Fin M) : (ix2 r k : (⟨2, ![N, M]⟩ : Shape).Idx).along 1 p = ix2 r p := by
  funext a
  fin_cases a <;> rfl

/-- The first columns of an array, entry by entry. -/
theorem slice_row (h : (⟨2, ![N, M]⟩ : Shape).Slices (fun _ => 0) ⟨2, ![N, K]⟩) {α : Type} (x : (⟨2, ![N, M]⟩ : Shape).Idx → α)
    (r : Fin N) (i : Fin K) :
    extractStridedSlice ⟨2, ![N, K]⟩ (fun _ => 0) x h (ix2 r i) = x (ix2 r (i.castLE hK)) := by
  unfold extractStridedSlice
  congr 1
  funext a
  fin_cases a <;> apply Fin.ext <;> simp [ix2]

/-- A row's top values are the entries at its first sorted places, -/
theorem topK_val (X : FVec Ideal ⟨2, ![N, M]⟩ .f32) (h : (⟨2, ![N, M]⟩ : Shape).Slices (fun _ => 0) ⟨2, ![N, K]⟩)
    (r : Fin N) (i : Fin K) :
    (Host.topK ⟨2, ![N, K]⟩ 1 (FloatOps.cmpfTotal (F := Ideal) .gt) X h).1 (ix2 r i) = X (ix2 r (placeOf hK X r i)) := by
  have hd : 1 < (⟨2, ![N, M]⟩ : Shape).rank := Nat.one_lt_two
  unfold Host.topK Host.sort2
  dsimp only
  rw [dif_pos hd]
  dsimp only
  rw [slice_row hK]
  refine congrArg X ((along_row r _ _).trans (congrArg (ix2 r) ?_))
  unfold placeOf
  congr 1
  funext k k'
  exact congrArg₂ (fun u v => FloatOps.cmpfTotal (F := Ideal) .gt (X u) (X v) == 1#1)
    (along_row r (i.castLE hK) k) (along_row r (i.castLE hK) k')

/-- and its top indices are those places. -/
theorem topK_idx (X : FVec Ideal ⟨2, ![N, M]⟩ .f32) (h : (⟨2, ![N, M]⟩ : Shape).Slices (fun _ => 0) ⟨2, ![N, K]⟩)
    (r : Fin N) (i : Fin K) :
    (Host.topK ⟨2, ![N, K]⟩ 1 (FloatOps.cmpfTotal (F := Ideal) .gt) X h).2 (ix2 r i) = BitVec.ofNat 32 (placeOf hK X r i).val := by
  have hd : 1 < (⟨2, ![N, M]⟩ : Shape).rank := Nat.one_lt_two
  unfold Host.topK Host.sort2
  dsimp only
  rw [dif_pos hd]
  dsimp only
  rw [slice_row hK, dif_pos hd]
  unfold placeOf
  refine congrArg (fun z : Fin M => BitVec.ofNat 32 z.val) (congrArg (fun f => sortedFrom f (i.castLE hK)) ?_)
  funext k k'
  exact congrArg₂ (fun u v => FloatOps.cmpfTotal (F := Ideal) .gt (X u) (X v) == 1#1)
    (along_row r (i.castLE hK) k) (along_row r (i.castLE hK) k')

/-- Two places never hold the same column. -/
theorem placeOf_injective (X : FVec Ideal ⟨2, ![N, M]⟩ .f32) (r : Fin N) : Function.Injective (placeOf hK X r) := fun i k h =>
  Fin.castLE_injective hK (sortedFrom_injective _ h)

/-- A later place holds no greater entry. -/
theorem placeOf_desc (X : FVec Ideal ⟨2, ![N, M]⟩ .f32) (r : Fin N) {i k : Fin K} (h : i ≤ k) :
    X (ix2 r (placeOf hK X r k)) ≤ X (ix2 r (placeOf hK X r i)) := sorted_le X r _ _ h

/-- A column outside the first places holds no more than any of them. -/
theorem placeOf_rest (X : FVec Ideal ⟨2, ![N, M]⟩ .f32) (r : Fin N) (j : Fin M) (h : ∀ i, placeOf hK X r i ≠ j) (i : Fin K) :
    X (ix2 r j) ≤ X (ix2 r (placeOf hK X r i)) := by
  obtain ⟨k, rfl⟩ := sortedFrom_surjective (greater X r) j
  refine sorted_le X r _ _ ?_
  by_contra hlt
  have hk : k.val < i.val := not_le.1 hlt
  exact h ⟨k.val, hk.trans i.isLt⟩ rfl

end sorted

/-- A square array's indices. -/
abbrev Sq : Shape := ⟨2, ![10000, 10000]⟩

/-- The indices of 32 entries per row. -/
abbrev Top : Shape := ⟨2, ![10000, 32]⟩

/-- A row has more columns than places. -/
theorem cols : 32 ≤ 10000 := by decide

/-- The column that lands at place `i` when row `r` is sorted, greater first. -/
def place (X : FVec Ideal Sq .f32) (r : Fin 10000) (i : Fin 32) : Fin 10000 := placeOf cols X r i

/-- The top values of a square array's row. -/
theorem top_val (X : FVec Ideal Sq .f32) (h : Sq.Slices (fun _ => 0) Top) (r : Fin 10000) (i : Fin 32) :
    (Host.topK Top 1 (FloatOps.cmpfTotal (F := Ideal) .gt) X h).1 (ix2 r i) = X (ix2 r (place X r i)) :=
  topK_val cols X h r i

/-- The top indices of a square array's row. -/
theorem top_idx (X : FVec Ideal Sq .f32) (h : Sq.Slices (fun _ => 0) Top) (r : Fin 10000) (i : Fin 32) :
    (Host.topK Top 1 (FloatOps.cmpfTotal (F := Ideal) .gt) X h).2 (ix2 r i) = BitVec.ofNat 32 (place X r i).val :=
  topK_idx cols X h r i

/-- The rectified array. -/
def relu (A : FVec Ideal Sq .f32) : FVec Ideal Sq .f32 := fun i => max (A i) 0

/-- The rectified row inside the array. -/
theorem pos_row (A : FVec Ideal Sq .f32) (r j : Fin 10000) : TopMask.pos (arrRow A r) j.val = relu A (ix2 r j) := by
  unfold TopMask.pos arrRow relu
  rw [dif_pos j.isLt]

/-- The rectified row is zero past the array's end. -/
theorem pos_past (A : FVec Ideal Sq .f32) (r : Fin 10000) {j : ℕ} (h : 10000 ≤ j) : TopMask.pos (arrRow A r) j = 0 := by
  unfold TopMask.pos arrRow
  rw [dif_neg (by omega)]
  exact max_eq_right bot_le

/-- The sorted row's first 32 places hold its 32 largest rectified entries. -/
theorem isTop_place (A : FVec Ideal Sq .f32) (r : Fin 10000) :
    TopMask.IsTop (arrRow A r) fun i => (place (relu A) r i).val where
  inj i k h := placeOf_injective cols (relu A) r (Fin.ext h)
  lt i := Nat.lt_of_lt_of_le (place (relu A) r i).isLt (by norm_num)
  desc i k h := by
    rw [pos_row, pos_row]
    exact placeOf_desc cols (relu A) r h
  rest j hj hne := by
    by_cases hj' : j < 10000
    · have e := pos_row A r ⟨j, hj'⟩
      rw [pos_row]
      refine (le_of_eq e).trans (placeOf_rest cols (relu A) r ⟨j, hj'⟩ (fun i hi => hne i ?_) 31)
      exact congrArg Fin.val hi
    · rw [pos_past A r (not_lt.1 hj')]
      exact TopMask.pos_nonneg _

end Cert.KernelIdeal.Rows

end
-- ==== Proof.RefValue.lean ====
module

public import proofs.«01_k».proof.Proof.TopRow
public import proofs.«01_k».proof.Proof.Gen.ReferenceIdeal.Run
public import Idealize.ShloMosaic.Lib.ScatterToDense.RefScatter

/-! The reference's result, row by row at exact values: the rectified row times the mask of its 32 largest places. -/

@[expose] public section

set_option maxRecDepth 16384

noncomputable section

namespace Cert.RefRows

open Idealize.ShloMosaic Idealize.ShloMosaic.TcCoe Idealize.SL.Sem
open Cert.KernelIdeal.Rows
open Cert.ReferenceIdeal (scatter_S10000x10000_S10000x32x2_S10000x32_n_01_01_2 S_ S10000 S10000x1 S10000x32 S10000x32x1 S10000x32x2 S10000x10000)
open Cert.ReferenceIdeal.Gen

/-- A scatter that sets ones holds one where some word names the column. -/
theorem ones_at (word : ℕ → BitVec 32) (col n : ℕ) :
    ScatterToDense.GS word (fun _ => (1 : EReal)) 0 col n = if ∃ i < n, (word i).toNat = col then 1 else 0 := by
  induction n with
  | zero => simp [ScatterToDense.GS_zero]
  | succ n ih =>
    rw [ScatterToDense.GS_succ, ih]
    by_cases h : col = (word n).toNat
    · rw [if_pos h, if_pos ⟨n, Nat.lt_succ_self n, h.symm⟩]
    · rw [if_neg h]
      refine if_congr ⟨fun ⟨i, hi, e⟩ => ⟨i, hi.trans (Nat.lt_succ_self n), e⟩, fun ⟨i, hi, e⟩ => ⟨i, ?_, e⟩⟩ rfl rfl
      rcases Nat.lt_succ_iff_lt_or_eq.1 hi with hi | rfl
      · exact hi
      · exact absurd e.symm h

/-- The places the reference's mask is set at: each row's number beside its 32 indices, both wrapped where negative. -/
def pairs (I : IVec S10000x32 32) : IVec S10000x32x2 32 :=
  concatenate S10000x32x2 2 [⟨S10000x32x1, (broadcastInDim S10000x32x1 ![0, 1] bcast_S10000x32_S10000x32x1_0_1 (broadcastInDim S10000x32 ![0, 1] bcast_S10000x1_S10000x32_0_1 (select (cmpi .slt (broadcastInDim S10000x1 ![0] bcast_S10000_S10000x1_0 (iotaInDim S10000 32 0)) (broadcastInDim S10000x1 ![] bcast_S_S10000x1 (constantI S_ 32 0#32))) (addi (broadcastInDim S10000x1 ![0] bcast_S10000_S10000x1_0 (iotaInDim S10000 32 0)) (broadcastInDim S10000x1 ![] bcast_S_S10000x1 (constantI S_ 32 10000#32))) (broadcastInDim S10000x1 ![0] bcast_S10000_S10000x1_0 (iotaInDim S10000 32 0)))))⟩, ⟨S10000x32x1, (broadcastInDim S10000x32x1 ![0, 1] bcast_S10000x32_S10000x32x1_0_1 (select (cmpi .slt I (broadcastInDim S10000x32 ![] bcast_S_S10000x32 (constantI S_ 32 0#32))) (addi I (broadcastInDim S10000x32 ![] bcast_S_S10000x32 (constantI S_ 32 10000#32))) I))⟩] concatenates_S10000x32x1_S10000x32x1_S10000x32x2_d2

/-- The first coordinate of a pair is the row's number. -/
theorem pairs_row (I : IVec S10000x32 32) (r : Fin 10000) (i : Fin 32) :
    pairs I (ix3 r i (0 : Fin 2)) = BitVec.ofNat 32 r.val := by
  unfold pairs
  pointwise
  have hr := r.isLt
  exact Routing.wrap_of_lt _ _ (by rw [BitVec.toNat_ofNat]; omega)

/-- The second coordinate of a pair is the index, where it is not negative. -/
theorem pairs_col (I : IVec S10000x32 32) (r : Fin 10000) (i : Fin 32) (h : (I (ix2 r i)).toNat < 2 ^ 31) :
    pairs I (ix3 r i (1 : Fin 2)) = I (ix2 r i) := by
  unfold pairs
  pointwise
  exact Routing.wrap_of_lt _ _ h

/-- The rectified array, as the reference writes it. -/
theorem relu_eq (A : FVec Ideal S10000x10000 .f32) :
    maximumf A (broadcastInDim S10000x10000 ![] bcast_S_S10000x10000 (constant S_ .f32 0x00000000#32)) = relu A := by
  funext i
  idx_vars i
  unfold relu
  pointwise

/-- The reference's mask: one at the row's 32 largest places, else zero. -/
theorem mask_at (X : FVec Ideal S10000x10000 .f32) (r j : Fin 10000) :
    Host.scatter scatter_S10000x10000_S10000x32x2_S10000x32_n_01_01_2 (fun _ b => b)
      (broadcastInDim S10000x10000 ![] bcast_S_S10000x10000 (constant (F := Ideal) S_ .f32 0x00000000#32))
      (pairs (Host.topK S10000x32 1 (FloatOps.cmpfTotal (F := Ideal) .gt) X sliceFits_S10000x10000_S10000x32).2)
      (broadcastInDim S10000x32 ![] bcast_S_S10000x32 (constant (F := Ideal) S_ .f32 0x3F800000#32)) (ix2 r j)
      = if ∃ i, (place X r i).val = j.val then (1 : EReal) else 0 := by
  have hI : ∀ r' i, (Host.topK S10000x32 1 (FloatOps.cmpfTotal (F := Ideal) .gt) X sliceFits_S10000x10000_S10000x32).2 (ix2 r' i)
      = BitVec.ofNat 32 (place X r' i).val := fun r' i => top_idx X _ r' i
  generalize (Host.topK S10000x32 1 (FloatOps.cmpfTotal (F := Ideal) .gt) X sliceFits_S10000x10000_S10000x32).2 = I at hI ⊢
  have hlt : ∀ r' i, (BitVec.ofNat 32 (place X r' i).val).toNat = (place X r' i).val := fun r' i => by
    have := (place X r' i).isLt
    rw [BitVec.toNat_ofNat]; omega
  rw [ix2_eq_valueIdx r j, ScatterToDense.scatter_eq_GS (T := 10000) (C := 10000) (K := 32) _ rfl rfl rfl (by norm_num) (by norm_num) _ _ _
    (fun r' k => if h : k < 32 then I (ix2 r' ⟨k, h⟩) else 0#32) (fun _ _ => (1 : EReal))
    (fun r' i => by rw [← ix3_eq_valueIdx]; exact pairs_row I r' i)
    (fun r' i => by
      rw [dif_pos i.isLt, ← ix3_eq_valueIdx]
      exact pairs_col I r' i (by rw [hI, hlt]; have := (place X r' i).isLt; omega))
    (fun r' i => by rw [← ix2_eq_valueIdx]; pointwise)]
  rw [← ix2_eq_valueIdx]
  have hz : broadcastInDim S10000x10000 ![] bcast_S_S10000x10000 (constant (F := Ideal) S_ .f32 0x00000000#32) (ix2 r j) = (0 : EReal) := by
    pointwise
  rw [hz, ones_at]
  refine if_congr ⟨?_, ?_⟩ rfl rfl
  · rintro ⟨k, hk, e⟩
    rw [dif_pos hk, hI, hlt] at e
    exact ⟨⟨k, hk⟩, e⟩
  · rintro ⟨i, e⟩
    refine ⟨i.val, i.isLt, ?_⟩
    rw [dif_pos i.isLt, hI, hlt]
    exact e

/-- Row `r` of the reference's result. -/
theorem ref_at (A : FVec Ideal S10000x10000 .f32) (r j : Fin 10000) :
    mulf (maximumf A (broadcastInDim S10000x10000 ![] bcast_S_S10000x10000 (constant S_ .f32 0x00000000#32)))
      (Host.scatter scatter_S10000x10000_S10000x32x2_S10000x32_n_01_01_2 (fun _ b => b)
        (broadcastInDim S10000x10000 ![] bcast_S_S10000x10000 (constant (F := Ideal) S_ .f32 0x00000000#32))
        (pairs (Host.topK S10000x32 1 (FloatOps.cmpfTotal (F := Ideal) .gt)
          (maximumf A (broadcastInDim S10000x10000 ![] bcast_S_S10000x10000 (constant S_ .f32 0x00000000#32)))
          sliceFits_S10000x10000_S10000x32).2)
        (broadcastInDim S10000x32 ![] bcast_S_S10000x32 (constant (F := Ideal) S_ .f32 0x3F800000#32))) (ix2 r j)
      = TopMask.topped (arrRow A r) (fun i => (place (relu A) r i).val) j.val := by
  rw [relu_eq]
  have h := mask_at (relu A) r j
  have e := pos_row A r j
  unfold TopMask.topped
  rw [e]
  generalize Host.scatter scatter_S10000x10000_S10000x32x2_S10000x32_n_01_01_2 _ _ _ _ = S at h ⊢
  generalize relu A = X at h ⊢
  generalize ix2 r j = i at h ⊢
  have e2 : mulf X S i = X i * S i := rfl
  rw [e2, h]
  by_cases hp : ∃ i, (place X r i).val = j.val
  · rw [if_pos hp]
    beta_reduce
    rw [if_pos hp]
  · rw [if_neg hp]
    beta_reduce
    rw [if_neg hp]

end Cert.RefRows

end
-- ==== Proof.PreFacts.lean ====
module

public import proofs.«01_k».proof.Proof.TopRow
public import proofs.«01_k».proof.Pre_separated

/-! What the precondition says of each row at exact values. -/

@[expose] public section

set_option maxRecDepth 16384

noncomputable section

namespace Cert.PreRows

open Cert.KernelIdeal.Rows Cert.Pre_separated Idealize.ShloMosaic Idealize.ShloMosaic.TcCoe Idealize.SL.Sem
open Finset
open Cert.KernelIdeal.Lanes (c1 c2 sum_ones ofBits_c1 ofBits_c2 ofBits_32)

/-- The shape relations the precondition's operations state. -/
theorem facts : Cert.Pre_separated.Facts where
  bcast_S_S10000x10000 := by decide
  sliceFits_S10000x10000_S10000x32 := by decide
  slices_S10000x32_S10000x1_0_0 := by decide
  bcast_S_S10000x1 := by decide
  slices_S10000x32_S10000x1_0_31 := by decide
  bcast_S10000x1_S10000x10000_0_1 := by decide
  reducesTo_S10000x10000_S10000_d1 := by decide
  h_S_ := by decide
  bcast_S10000_S10000x1_0 := by decide
  pads_S10000x10000_S10000x10112_000_01120 := by decide
  shapeCasts_S10000x10112_S10000x79x128 := by decide
  reducesTo_S10000x79x128_S10000x128_d1 := by decide
  bcast_S_S10000x128 := by decide
  bcast_S10000x1_S10000x128_0_1 := by decide

/-- A truth value converted to a float is one or zero. -/
theorem word_one (p : Prop) [Decidable p] :
    FloatOps.uitofp (F := Ideal) .f32 (BitVec.ofBool (decide p)) = if p then (1 : EReal) else 0 := by
  by_cases h : p <;> simp [h, FloatOps.uitofp]

/-- How the precondition combines its three tests. -/
theorem or_and_one : ∀ a b c : Bool,
    IntOp.ori (BitVec.ofBool a) (IntOp.andi (BitVec.ofBool b) (BitVec.ofBool c)) = 1#1 → a = true ∨ b = true ∧ c = true := by
  decide

/-- The precondition's relative margin is a power of two. -/
theorem ofBits_margin : Ideal.ofBits .f32 0x36800000#32 = ((1 / 2 ^ 18 : ℝ) : EReal) := by
  simp [Ideal.ofBits, Ideal.ieee, -EReal.coe_mul]; norm_num

/-- The word of four. -/
theorem ofBits_4 : Ideal.ofBits .f32 0x40800000#32 = ((4 : ℝ) : EReal) := by
  simp [Ideal.ofBits, Ideal.ieee, -EReal.coe_mul]; norm_num

/-- A sum of ones bounded by a number bounds how many terms are one. -/
theorem card_of_sum {ι : Type} [DecidableEq ι] (s : Finset ι) (p : ι → Prop) [DecidablePred p] (n : ℕ)
    (h : (∑ x ∈ s, if p x then (1 : EReal) else 0) ≤ ((n : ℝ) : EReal)) : (s.filter p).card ≤ n := by
  rw [sum_ones] at h
  exact_mod_cast h

/-- Counting over the numbers below a bound instead of over their type. -/
theorem card_range (n k N : ℕ) (p : ℕ → Prop) [DecidablePred p] (hp : ∀ j, N ≤ j → ¬ p j)
    (h : ((univ : Finset (Fin N)).filter fun x => p x.val).card ≤ k) : ((range n).filter p).card ≤ k := by
  refine le_trans (card_le_card ?_) (le_trans (card_image_le (f := Fin.val) (s := (univ : Finset (Fin N)).filter fun x => p x.val)) h)
  intro j hj
  have hpj := (mem_filter.1 hj).2
  have hjN : j < N := not_le.1 fun hle => hp j hle hpj
  exact mem_image.2 ⟨⟨j, hjN⟩, mem_filter.2 ⟨mem_univ _, hpj⟩, rfl⟩

/-- No entry past the row's end is above a level that is not negative. -/
theorem not_past (A : FVec Ideal Sq .f32) (r : Fin 10000) {t : EReal} (ht : 0 ≤ t) (j : ℕ) (hj : 10000 ≤ j) :
    ¬ t < TopMask.pos (arrRow A r) j := by
  rw [pos_past A r hj]
  exact ht.not_gt

/-- How many of a row's entries lie above a level, from the sum the precondition takes. -/
theorem row_count (A : FVec Ideal Sq .f32) (r : Fin 10000) (t : EReal) (ht : 0 ≤ t)
    (h : (∑ x : Fin 10000, if t < TopMask.pos (arrRow A r) x.val then (1 : EReal) else 0) ≤ ((32 : ℝ) : EReal)) :
    ((range 10112).filter fun j => t < TopMask.pos (arrRow A r) j).card ≤ 32 :=
  card_range 10112 32 10000 _ (not_past A r ht) (card_of_sum _ _ 32 (by exact_mod_cast h))

/-- A lane's term of the precondition's sum, the padding past the row's end included. -/
theorem lane_term (A : FVec Ideal Sq .f32) (r : Fin 10000) (k : ℕ) (t : EReal) (ht : 0 ≤ t) :
    (if h : k < 10000 then (if t < max (A (ix2 r ⟨k, h⟩)) 0 then (1 : EReal) else 0) else 0)
      = if t < TopMask.pos (arrRow A r) k then 1 else 0 := by
  by_cases h : k < 10000
  · rw [dif_pos h]
    refine if_congr ?_ rfl rfl
    rw [show max (A (ix2 r ⟨k, h⟩)) 0 = TopMask.pos (arrRow A r) k from (pos_row A r ⟨k, h⟩).symm]
  · rw [dif_neg h, if_neg (not_past A r ht k (not_lt.1 h))]

/-- How many of a lane's entries lie above a level, from the sum the precondition takes. -/
theorem lane_count (A : FVec Ideal Sq .f32) (r : Fin 10000) (l : ℕ) (t : EReal) (ht : 0 ≤ t)
    (h : (∑ x : Fin 79, if h : x.val * 128 + l < 10000 then (if t < max (A (ix2 r ⟨x.val * 128 + l, h⟩)) 0 then (1 : EReal) else 0) else 0)
      ≤ ((4 : ℝ) : EReal)) :
    ((range 79).filter fun c => t < TopMask.pos (arrRow A r) (128 * c + l)).card ≤ 4 := by
  refine card_range 79 4 79 _ (fun j hj => not_past A r ht _ (by omega)) (card_of_sum _ _ 4 ?_)
  refine le_trans (le_of_eq (Finset.sum_congr rfl fun x _ => ?_)) (h.trans (by norm_num))
  rw [lane_term A r _ t ht, mul_comm]

/-- The rectified array, as the precondition writes it. -/
theorem relu_of (A : FVec Ideal Sq .f32) (h : (⟨0, ![]⟩ : Shape).BroadcastsInDim Sq (![] : Fin 0 → Fin 2)) :
    maximumf A (broadcastInDim Sq ![] h (constant (F := Ideal) ⟨0, ![]⟩ .f32 0x00000000#32)) = relu A := by
  funext i
  obtain ⟨a, b, rfl⟩ : ∃ a b, i = ix2 a b := ⟨i 0, i 1, by funext d; fin_cases d <;> rfl⟩
  unfold relu
  pointwise

variable [Facts]
open Facts

/-- The level above which the precondition counts a row's entries as near its 32 largest. -/
abbrev near (A : FVec Ideal Sq .f32) (r : Fin 10000) : EReal :=
  TopMask.level (arrRow A r) (fun i => (place (relu A) r i).val) c1 c2 (1 / 2 ^ 18)

/-- What the precondition says of a row and a lane: at most 32 positive entries, or at most 32 near the row's 32 largest
of which at most four in the lane. -/
theorem pre_at (I : IVec S10000 32) (A : FVec Ideal S10000x10000 .f32) (r : Fin 10000) (l : Fin 128)
    (h : fn I A (ix2 r l) = 1#1) :
    ((range 10112).filter fun j => 0 < TopMask.pos (arrRow A r) j).card ≤ 32 ∨
      ((range 10112).filter fun j => near A r < TopMask.pos (arrRow A r) j).card ≤ 32 ∧
      ((range 79).filter fun c => near A r < TopMask.pos (arrRow A r) (128 * c + l.val)).card ≤ 4 := by
  unfold fn fn_part1 fn_part2 at h
  dsimp only at h
  pointwise at h
  have hn : 0 ≤ near A r := le_max_right _ _
  have e : max ((relu A (ix2 r (place (relu A) r 31)) - (relu A (ix2 r (place (relu A) r 0)) * (c1 : EReal) + (c2 : EReal)) * ((1 / 2 ^ 18 : ℝ) : EReal))) 0 = near A r := by
    unfold near TopMask.level
    rw [pos_row, pos_row]
  rw [relu_of] at h
  simp only [word_one, top_val, ofBits_c1, ofBits_c2, ofBits_32, ofBits_margin, ofBits_4, e] at h
  have row : ∀ t : EReal, 0 ≤ t → (∑ x : Fin 10000, if t < max (A (ix2 r x)) 0 then (1 : EReal) else 0) ≤ ((32 : ℝ) : EReal) →
      ((range 10112).filter fun j => t < TopMask.pos (arrRow A r) j).card ≤ 32 := fun t ht hs =>
    row_count A r t ht (le_trans (le_of_eq (Finset.sum_congr rfl fun x _ => by rw [pos_row]; rfl)) hs)
  rcases or_and_one _ _ _ h with few | ⟨gap, lane⟩
  · exact Or.inl (row 0 le_rfl (of_decide_eq_true few))
  · exact Or.inr ⟨row _ hn (of_decide_eq_true gap), lane_count A r l.val _ hn (of_decide_eq_true lane)⟩

end Cert.PreRows

end
-- ==== Proof.lean ====
/- The certificate's claims: the frames, the idealization, and the equation of kernel and reference wherever each row's 32
   largest entries are separated. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefValue
public import proofs.«01_k».proof.Proof.PreFacts
public import Idealize.ShloMosaic.Adequacy
public import Idealize.ShloMosaic.Init

@[expose] public section

set_option maxRecDepth 16384

noncomputable section

namespace Cert.Proof

open Idealize.ShloMosaic Idealize.SL.Sem Cert.Kernel

/-- A row of which the precondition holds: the bisected mask keeps the row's 32 largest rectified entries. -/
theorem masked_eq {a : ℕ → EReal} {σ : Fin 32 → ℕ} {h0 : EReal} {j : ℕ} (top : TopMask.IsTop a σ) (hh : 0 ≤ h0)
    (hσ : ∀ σ, TopMask.IsTop a σ → h0 = TopMask.pos a (σ 0) * Cert.KernelIdeal.Lanes.c1 + Cert.KernelIdeal.Lanes.c2)
    (pre : ∀ l : Fin 128, ((Finset.range 10112).filter fun j => 0 < TopMask.pos a j).card ≤ 32 ∨
      ((Finset.range 10112).filter fun j => TopMask.level a σ Cert.KernelIdeal.Lanes.c1 Cert.KernelIdeal.Lanes.c2 (1 / 2 ^ 18) < TopMask.pos a j).card ≤ 32 ∧
      ((Finset.range 79).filter fun c => TopMask.level a σ Cert.KernelIdeal.Lanes.c1 Cert.KernelIdeal.Lanes.c2 (1 / 2 ^ 18) < TopMask.pos a (128 * c + l.val)).card ≤ 4)
    (hj : j < 10112) : TopMask.masked a h0 j = TopMask.topped a σ j := by
  by_cases few : ((Finset.range 10112).filter fun j => 0 < TopMask.pos a j).card ≤ 32
  · exact TopMask.masked_of_few top hh few hj
  · have near := fun l => (pre l).resolve_left few
    exact TopMask.masked_of_gap top Cert.KernelIdeal.Lanes.one_le_c1 Cert.KernelIdeal.Lanes.c2_pos (hσ σ top) (not_le.1 few)
      (near 0).1 (fun l hl => (near ⟨l, hl⟩).2) hj

/-- Each row of the kernel's result of which the precondition holds is the rectified row at its 32 largest places and zero
elsewhere, whatever the other rows hold. -/
theorem result_eq (m : (ℓ : Loc Cert.KernelIdeal.nD Cert.KernelIdeal.τ Cert.KernelIdeal.sig) → Buf (Elt Ideal) ℓ)
    (c : Dev Cert.KernelIdeal.nD) (I : IVec Cert.Pre_separated.S10000 32) (r j : Fin 10000)
    (h : ∀ l : Fin 128, @Cert.Pre_separated.fn Cert.PreRows.facts Ideal _ I
      (m ((c.tc : Thread Cert.KernelIdeal.nD Cert.KernelIdeal.τ).loc Cert.KernelIdeal.main_arg1)) (ix2 r l) = 1#1) :
    (Cert.KernelIdeal.Gen.dats m 0 c).arrAt 1 Cert.KernelIdeal.cfg0.N (ix2 r j)
      = TopMask.topped (Cert.KernelIdeal.Rows.arrRow (m ((c.tc : Thread Cert.KernelIdeal.nD Cert.KernelIdeal.τ).loc Cert.KernelIdeal.main_arg1)) r)
        (fun i => (Cert.KernelIdeal.Rows.place (Cert.KernelIdeal.Rows.relu (m ((c.tc : Thread Cert.KernelIdeal.nD Cert.KernelIdeal.τ).loc Cert.KernelIdeal.main_arg1))) r i).val) j.val := by
  obtain ⟨h0, hh, hσ, hj⟩ := Cert.KernelIdeal.Rows.array_row m c r
  have top := Cert.KernelIdeal.Rows.isTop_place (m ((c.tc : Thread Cert.KernelIdeal.nD Cert.KernelIdeal.τ).loc Cert.KernelIdeal.main_arg1)) r
  have pre := fun l => @Cert.PreRows.pre_at Cert.PreRows.facts I _ r l (h l)
  exact (hj j).trans (masked_eq top hh hσ pre (by omega))

/-- Without a precondition: from any memory, the kernel's run ends with every separated row at the rectified row's 32 largest
places and zero elsewhere. -/
theorem separated_rows (m : (ℓ : Loc Cert.KernelIdeal.nD Cert.KernelIdeal.τ Cert.KernelIdeal.sig) → Buf (Elt Ideal) ℓ)
    (g : Dev Cert.KernelIdeal.nD → PrngReg) (I : IVec Cert.Pre_separated.S10000 32) :
    θ_run (Cert.KernelIdeal.defs (F := Ideal)) (onTc (τ := Cert.KernelIdeal.τ) (Cert.KernelIdeal.main (F := Ideal))) ⟨m, fun _ => 0, g⟩ fun s =>
      ∀ (c : Dev Cert.KernelIdeal.nD) (r j : Fin 10000),
        (∀ l : Fin 128, @Cert.Pre_separated.fn Cert.PreRows.facts Ideal _ I
          (m ((c.tc : Thread Cert.KernelIdeal.nD Cert.KernelIdeal.τ).loc Cert.KernelIdeal.main_arg1)) (ix2 r l) = 1#1) →
        s.2.mem ((c.tc : Thread Cert.KernelIdeal.nD Cert.KernelIdeal.τ).loc Cert.KernelIdeal.main_v0) (ix2 r j)
          = TopMask.topped (Cert.KernelIdeal.Rows.arrRow (m ((c.tc : Thread Cert.KernelIdeal.nD Cert.KernelIdeal.τ).loc Cert.KernelIdeal.main_arg1)) r)
            (fun i => (Cert.KernelIdeal.Rows.place (Cert.KernelIdeal.Rows.relu (m ((c.tc : Thread Cert.KernelIdeal.nD Cert.KernelIdeal.τ).loc Cert.KernelIdeal.main_arg1))) r i).val) j.val :=
  (θ_run Cert.KernelIdeal.defs _ _).mono (fun _ h c r j sep => (congrFun (h c).1 (ix2 r j)).trans (result_eq m c I r j sep))
    (Cert.KernelIdeal.Value.run_blocks m g)

/-- The reference's run ends with its arguments unchanged; it declares no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Every claim of the certificate. -/
theorem claim : Cert.Claim := ⟨Cert.Kernel.Gen.facts, Cert.KernelIdeal.Gen.facts, Cert.ReferenceIdeal.Gen.facts, Cert.PreRows.facts,
  fun m g _ => Cert.Kernel.Gen.frame m g, fun m g _ => Cert.KernelIdeal.Gen.frame m g, fun m g _ => Cert.KernelIdeal.Gen.frame m g,
  reference_frame, fun m g _ => reference_frame m g trivial, trivial, by
  intro m g m' g' pre same
  refine ⟨fun c => (Cert.KernelIdeal.Gen.dats m 0 c).arrAt 1 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  rw [(same c).2]
  funext i
  idx_vars i
  exact (Cert.RefRows.ref_at _ _ _).trans (result_eq m c _ _ _ fun l => congrFun (pre c) (ix2 _ l)).symm⟩

end Cert.Proof

end
